-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v13)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v71) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v19_0)) (v1 : (c : Dev Cert.InprojIdeal.nD) → Buf (Elt Ideal) ((c.tc : Thread Cert.InprojIdeal.nD Cert.InprojIdeal.τ).loc Cert.InprojIdeal.main_v19_1)) (v2 : (c : Dev Cert.InprojIdeal.nD) → Buf (Elt Ideal) ((c.tc : Thread Cert.InprojIdeal.nD Cert.InprojIdeal.τ).loc Cert.InprojIdeal.main_v19_2)) (v3 : (c : Dev Cert.InprojIdeal.nD) → Buf (Elt Ideal) ((c.tc : Thread Cert.InprojIdeal.nD Cert.InprojIdeal.τ).loc Cert.InprojIdeal.main_v19_3)) (v4 : (c : Dev Cert.InprojIdeal.nD) → Buf (Elt Ideal) ((c.tc : Thread Cert.InprojIdeal.nD Cert.InprojIdeal.τ).loc Cert.InprojIdeal.main_v19_4)) (v5 : (c : Dev Cert.InprojIdeal.nD) → Buf (Elt Ideal) ((c.tc : Thread Cert.InprojIdeal.nD Cert.InprojIdeal.τ).loc Cert.InprojIdeal.main_v19_5)) (v6 : (c : Dev Cert.InprojIdeal.nD) → Buf (Elt Ideal) ((c.tc : Thread Cert.InprojIdeal.nD Cert.InprojIdeal.τ).loc Cert.InprojIdeal.main_v19_6)) (v7 : (c : Dev Cert.InprojIdeal.nD) → Buf (Elt Ideal) ((c.tc : Thread Cert.InprojIdeal.nD Cert.InprojIdeal.τ).loc Cert.InprojIdeal.main_v19_7)) (v8 : (c : Dev Cert.InprojIdeal.nD) → Buf (Elt Ideal) ((c.tc : Thread Cert.InprojIdeal.nD Cert.InprojIdeal.τ).loc Cert.InprojIdeal.main_v19_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v19_0) = v0 c
          ∧ r.2.mem ((c.tc : Thread Cert.InprojIdeal.nD Cert.InprojIdeal.τ).loc Cert.InprojIdeal.main_v19_1) = v1 c
          ∧ r.2.mem ((c.tc : Thread Cert.InprojIdeal.nD Cert.InprojIdeal.τ).loc Cert.InprojIdeal.main_v19_2) = v2 c
          ∧ r.2.mem ((c.tc : Thread Cert.InprojIdeal.nD Cert.InprojIdeal.τ).loc Cert.InprojIdeal.main_v19_3) = v3 c
          ∧ r.2.mem ((c.tc : Thread Cert.InprojIdeal.nD Cert.InprojIdeal.τ).loc Cert.InprojIdeal.main_v19_4) = v4 c
          ∧ r.2.mem ((c.tc : Thread Cert.InprojIdeal.nD Cert.InprojIdeal.τ).loc Cert.InprojIdeal.main_v19_5) = v5 c
          ∧ r.2.mem ((c.tc : Thread Cert.InprojIdeal.nD Cert.InprojIdeal.τ).loc Cert.InprojIdeal.main_v19_6) = v6 c
          ∧ r.2.mem ((c.tc : Thread Cert.InprojIdeal.nD Cert.InprojIdeal.τ).loc Cert.InprojIdeal.main_v19_7) = v7 c
          ∧ r.2.mem ((c.tc : Thread Cert.InprojIdeal.nD Cert.InprojIdeal.τ).loc Cert.InprojIdeal.main_v19_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v62) = v0 c
          ∧ r.2.mem ((c.tc : Thread Cert.InprojRefIdeal.nD Cert.InprojRefIdeal.τ).loc Cert.InprojRefIdeal.main_v63) = v1 c
          ∧ r.2.mem ((c.tc : Thread Cert.InprojRefIdeal.nD Cert.InprojRefIdeal.τ).loc Cert.InprojRefIdeal.main_v64) = v2 c
          ∧ r.2.mem ((c.tc : Thread Cert.InprojRefIdeal.nD Cert.InprojRefIdeal.τ).loc Cert.InprojRefIdeal.main_v65) = v3 c
          ∧ r.2.mem ((c.tc : Thread Cert.InprojRefIdeal.nD Cert.InprojRefIdeal.τ).loc Cert.InprojRefIdeal.main_v66) = v4 c
          ∧ r.2.mem ((c.tc : Thread Cert.InprojRefIdeal.nD Cert.InprojRefIdeal.τ).loc Cert.InprojRefIdeal.main_v68) = v5 c
          ∧ r.2.mem ((c.tc : Thread Cert.InprojRefIdeal.nD Cert.InprojRefIdeal.τ).loc Cert.InprojRefIdeal.main_v70) = v6 c
          ∧ r.2.mem ((c.tc : Thread Cert.InprojRefIdeal.nD Cert.InprojRefIdeal.τ).loc Cert.InprojRefIdeal.main_v72) = v7 c
          ∧ r.2.mem ((c.tc : Thread Cert.InprojRefIdeal.nD Cert.InprojRefIdeal.τ).loc Cert.InprojRefIdeal.main_v73) = v8 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v10)) (v1 : (c : Dev Cert.ModulationIdeal.nD) → Buf (Elt Ideal) ((c.tc : Thread Cert.ModulationIdeal.nD Cert.ModulationIdeal.τ).loc Cert.ModulationIdeal.main_v11)) (v2 : (c : Dev Cert.ModulationIdeal.nD) → Buf (Elt Ideal) ((c.tc : Thread Cert.ModulationIdeal.nD Cert.ModulationIdeal.τ).loc Cert.ModulationIdeal.main_v12)) (v3 : (c : Dev Cert.ModulationIdeal.nD) → Buf (Elt Ideal) ((c.tc : Thread Cert.ModulationIdeal.nD Cert.ModulationIdeal.τ).loc Cert.ModulationIdeal.main_v13)) (v4 : (c : Dev Cert.ModulationIdeal.nD) → Buf (Elt Ideal) ((c.tc : Thread Cert.ModulationIdeal.nD Cert.ModulationIdeal.τ).loc Cert.ModulationIdeal.main_v14)) (v5 : (c : Dev Cert.ModulationIdeal.nD) → Buf (Elt Ideal) ((c.tc : Thread Cert.ModulationIdeal.nD Cert.ModulationIdeal.τ).loc Cert.ModulationIdeal.main_v15)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v10) = v0 c
          ∧ r.2.mem ((c.tc : Thread Cert.ModulationIdeal.nD Cert.ModulationIdeal.τ).loc Cert.ModulationIdeal.main_v11) = v1 c
          ∧ r.2.mem ((c.tc : Thread Cert.ModulationIdeal.nD Cert.ModulationIdeal.τ).loc Cert.ModulationIdeal.main_v12) = v2 c
          ∧ r.2.mem ((c.tc : Thread Cert.ModulationIdeal.nD Cert.ModulationIdeal.τ).loc Cert.ModulationIdeal.main_v13) = v3 c
          ∧ r.2.mem ((c.tc : Thread Cert.ModulationIdeal.nD Cert.ModulationIdeal.τ).loc Cert.ModulationIdeal.main_v14) = v4 c
          ∧ r.2.mem ((c.tc : Thread Cert.ModulationIdeal.nD Cert.ModulationIdeal.τ).loc Cert.ModulationIdeal.main_v15) = v5 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v6) = v0 c
          ∧ r.2.mem ((c.tc : Thread Cert.ModulationRefIdeal.nD Cert.ModulationRefIdeal.τ).loc Cert.ModulationRefIdeal.main_v7) = v1 c
          ∧ r.2.mem ((c.tc : Thread Cert.ModulationRefIdeal.nD Cert.ModulationRefIdeal.τ).loc Cert.ModulationRefIdeal.main_v8) = v2 c
          ∧ r.2.mem ((c.tc : Thread Cert.ModulationRefIdeal.nD Cert.ModulationRefIdeal.τ).loc Cert.ModulationRefIdeal.main_v9) = v3 c
          ∧ r.2.mem ((c.tc : Thread Cert.ModulationRefIdeal.nD Cert.ModulationRefIdeal.τ).loc Cert.ModulationRefIdeal.main_v10) = v4 c
          ∧ r.2.mem ((c.tc : Thread Cert.ModulationRefIdeal.nD Cert.ModulationRefIdeal.τ).loc Cert.ModulationRefIdeal.main_v11) = v5 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_Ssm_SsmIdeal : Prop :=
  True

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v17_0)) (v1 : (c : Dev Cert.PrepIdeal.nD) → Buf (Elt Ideal) ((c.tc : Thread Cert.PrepIdeal.nD Cert.PrepIdeal.τ).loc Cert.PrepIdeal.main_v17_1)) (v2 : (c : Dev Cert.PrepIdeal.nD) → Buf (Elt Ideal) ((c.tc : Thread Cert.PrepIdeal.nD Cert.PrepIdeal.τ).loc Cert.PrepIdeal.main_v17_2)) (v3 : (c : Dev Cert.PrepIdeal.nD) → Buf (Elt Ideal) ((c.tc : Thread Cert.PrepIdeal.nD Cert.PrepIdeal.τ).loc Cert.PrepIdeal.main_v17_3)) (v4 : (c : Dev Cert.PrepIdeal.nD) → Buf (Elt Ideal) ((c.tc : Thread Cert.PrepIdeal.nD Cert.PrepIdeal.τ).loc Cert.PrepIdeal.main_v17_4)) (v5 : (c : Dev Cert.PrepIdeal.nD) → Buf (Elt Ideal) ((c.tc : Thread Cert.PrepIdeal.nD Cert.PrepIdeal.τ).loc Cert.PrepIdeal.main_v17_5)) (v6 : (c : Dev Cert.PrepIdeal.nD) → Buf (Elt Ideal) ((c.tc : Thread Cert.PrepIdeal.nD Cert.PrepIdeal.τ).loc Cert.PrepIdeal.main_v17_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v17_0) = v0 c
          ∧ r.2.mem ((c.tc : Thread Cert.PrepIdeal.nD Cert.PrepIdeal.τ).loc Cert.PrepIdeal.main_v17_1) = v1 c
          ∧ r.2.mem ((c.tc : Thread Cert.PrepIdeal.nD Cert.PrepIdeal.τ).loc Cert.PrepIdeal.main_v17_2) = v2 c
          ∧ r.2.mem ((c.tc : Thread Cert.PrepIdeal.nD Cert.PrepIdeal.τ).loc Cert.PrepIdeal.main_v17_3) = v3 c
          ∧ r.2.mem ((c.tc : Thread Cert.PrepIdeal.nD Cert.PrepIdeal.τ).loc Cert.PrepIdeal.main_v17_4) = v4 c
          ∧ r.2.mem ((c.tc : Thread Cert.PrepIdeal.nD Cert.PrepIdeal.τ).loc Cert.PrepIdeal.main_v17_5) = v5 c
          ∧ r.2.mem ((c.tc : Thread Cert.PrepIdeal.nD Cert.PrepIdeal.τ).loc Cert.PrepIdeal.main_v17_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v141) = v0 c
          ∧ r.2.mem ((c.tc : Thread Cert.PrepRefIdeal.nD Cert.PrepRefIdeal.τ).loc Cert.PrepRefIdeal.main_v142) = v1 c
          ∧ r.2.mem ((c.tc : Thread Cert.PrepRefIdeal.nD Cert.PrepRefIdeal.τ).loc Cert.PrepRefIdeal.main_v143) = v2 c
          ∧ r.2.mem ((c.tc : Thread Cert.PrepRefIdeal.nD Cert.PrepRefIdeal.τ).loc Cert.PrepRefIdeal.main_v144) = v3 c
          ∧ r.2.mem ((c.tc : Thread Cert.PrepRefIdeal.nD Cert.PrepRefIdeal.τ).loc Cert.PrepRefIdeal.main_v145) = v4 c
          ∧ r.2.mem ((c.tc : Thread Cert.PrepRefIdeal.nD Cert.PrepRefIdeal.τ).loc Cert.PrepRefIdeal.main_v138) = v5 c
          ∧ r.2.mem ((c.tc : Thread Cert.PrepRefIdeal.nD Cert.PrepRefIdeal.τ).loc Cert.PrepRefIdeal.main_v140) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def Claim : Prop :=
  ∃ (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hModulation : Cert.Modulation.Facts) (hModulationIdeal : Cert.ModulationIdeal.Facts) (hModulationRefIdeal : Cert.ModulationRefIdeal.Facts) (hSsm : Cert.Ssm.Facts) (hSsmIdeal : Cert.SsmIdeal.Facts) (hPrep : Cert.Prep.Facts) (hPrepIdeal : Cert.PrepIdeal.Facts) (hPrepRefIdeal : Cert.PrepRefIdeal.Facts),
    quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_Ssm (hSsm := hSsm)
    ∧ quiescent_SsmIdeal (hSsmIdeal := hSsmIdeal)
    ∧ quiescent_Prep (hPrep := hPrep)
    ∧ quiescent_PrepIdeal (hPrepIdeal := hPrepIdeal)
    ∧ quiescent_PrepRefIdeal (hPrepRefIdeal := hPrepRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
    ∧ preserves_Modulation_ModulationIdeal
    ∧ algebraic_ModulationIdeal_ModulationRefIdeal (hModulationIdeal := hModulationIdeal) (hModulationRefIdeal := hModulationRefIdeal)
    ∧ preserves_Ssm_SsmIdeal
    ∧ preserves_Prep_PrepIdeal
    ∧ algebraic_PrepIdeal_PrepRefIdeal (hPrepIdeal := hPrepIdeal) (hPrepRefIdeal := hPrepRefIdeal)
-- ==== Merge.lean ====
abbrev S4x8192x1024 : Shape := ⟨3, ![4, 8192, 1024]⟩
abbrev S4x8192x512 : Shape := ⟨3, ![4, 8192, 512]⟩
abbrev S4x1x1024 : Shape := ⟨3, ![4, 1, 1024]⟩
abbrev S512x2048 : Shape := ⟨2, ![512, 2048]⟩
abbrev S2048 : Shape := ⟨1, ![2048]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4x8192x4x128 : Shape := ⟨4, ![4, 8192, 4, 128]⟩
abbrev S4x4x8192x128 : Shape := ⟨4, ![4, 4, 8192, 128]⟩
abbrev S1x2048 : Shape := ⟨2, ![1, 2048]⟩
abbrev S1x1024 : Shape := ⟨2, ![1, 1024]⟩
abbrev S1x512x1024 : Shape := ⟨3, ![1, 512, 1024]⟩
abbrev S1x4x512x128 : Shape := ⟨4, ![1, 4, 512, 128]⟩
abbrev S1x1x1024 : Shape := ⟨3, ![1, 1, 1024]⟩
abbrev S512x1024 : Shape := ⟨2, ![512, 1024]⟩
abbrev S1x1x512x128 : Shape := ⟨4, ![1, 1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 31
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S512x2048, .f32⟩
  | .hbm, ⟨10, _⟩ => ⟨S2048, .f32⟩
  | .hbm, ⟨11, _⟩ => ⟨S1024x1024, .f32⟩
  | .hbm, ⟨12, _⟩ => ⟨S1024, .f32⟩
  | .hbm, ⟨13, _⟩ => ⟨S1024x2816, .f32⟩
  | .hbm, ⟨14, _⟩ => ⟨S1024x2816, .f32⟩
  | .hbm, ⟨15, _⟩ => ⟨S2816x1024, .f32⟩
  | .hbm, ⟨16, _⟩ => ⟨S1024, .f32⟩
  | .hbm, ⟨17, _⟩ => ⟨S4x8192x4x128, .f32⟩
  | .hbm, ⟨18, _⟩ => ⟨S4x4x8192x128, .f32⟩
  | .hbm, ⟨19, _⟩ => ⟨S4x8192x1024, .bf16⟩
  | .hbm, ⟨20, _⟩ => ⟨S4x8192x1024, .bf16⟩
  | .hbm, ⟨21, _⟩ => ⟨S4x8192x1024, .bf16⟩
  | .hbm, ⟨22, _⟩ => ⟨S512x2048, .bf16⟩
  | .hbm, ⟨23, _⟩ => ⟨S1x2048, .f32⟩
  | .hbm, ⟨24, _⟩ => ⟨S1024x1024, .bf16⟩
  | .hbm, ⟨25, _⟩ => ⟨S1x1024, .f32⟩
  | .hbm, ⟨26, _⟩ => ⟨S1024x2816, .bf16⟩
  | .hbm, ⟨27, _⟩ => ⟨S1024x2816, .bf16⟩
  | .hbm, ⟨28, _⟩ => ⟨S2816x1024, .bf16⟩
  | .hbm, ⟨29, _⟩ => ⟨S1x1024, .f32⟩
  | .hbm, ⟨30, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4x512x128, .f32⟩
  | .local _ .vmem, ⟨3, _⟩ => ⟨S1x4x512x128, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x2048, .bf16⟩
  | .local _ .vmem, ⟨19, _⟩ => ⟨S1x2048, .f32⟩
  | .local _ .vmem, ⟨20, _⟩ => ⟨S1024x1024, .bf16⟩
  | .local _ .vmem, ⟨21, _⟩ => ⟨S1x1024, .f32⟩
  | .local _ .vmem, ⟨22, _⟩ => ⟨S1024x2816, .bf16⟩
  | .local _ .vmem, ⟨23, _⟩ => ⟨S1024x2816, .bf16⟩
  | .local _ .vmem, ⟨24, _⟩ => ⟨S2816x1024, .bf16⟩
  | .local _ .vmem, ⟨25, _⟩ => ⟨S1x1024, .f32⟩
  | .local _ .vmem, ⟨26, _⟩ => ⟨S1x512x1024, .f32⟩
  | .local _ .vmem, ⟨27, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MergeRefIdeal.lean ====
abbrev S4x8192x1024 : Shape := ⟨3, ![4, 8192, 1024]⟩
abbrev S4x8192x512 : Shape := ⟨3, ![4, 8192, 512]⟩
abbrev S4x1x1024 : Shape := ⟨3, ![4, 1, 1024]⟩
abbrev S512x2048 : Shape := ⟨2, ![512, 2048]⟩
abbrev S2048 : Shape := ⟨1, ![2048]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S4x8192x2048 : Shape := ⟨3, ![4, 8192, 2048]⟩
abbrev S1x1x2048 : Shape := ⟨3, ![1, 1, 2048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩

abbrev nBuf : Space → Nat
  | .hbm => 110
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .f32⟩
  | .hbm, ⟨2, _⟩ => ⟨S4x8192x1024, .f32⟩
  | .hbm, ⟨3, _⟩ => ⟨S4x8192x1024, .f32⟩
  | .hbm, ⟨4, _⟩ => ⟨S4x8192x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S512x2048, .f32⟩
  | .hbm, ⟨10, _⟩ => ⟨S2048, .f32⟩
  | .hbm, ⟨11, _⟩ => ⟨S1024x1024, .f32⟩
  | .hbm, ⟨12, _⟩ => ⟨S1024, .f32⟩
  | .hbm, ⟨13, _⟩ => ⟨S1024x2816, .f32⟩
  | .hbm, ⟨14, _⟩ => ⟨S1024x2816, .f32⟩
  | .hbm, ⟨15, _⟩ => ⟨S2816x1024, .f32⟩
  | .hbm, ⟨16, _⟩ => ⟨S1024, .f32⟩
  | .hbm, ⟨17, _⟩ => ⟨S4x8192x2048, .f32⟩
  | .hbm, ⟨18, _⟩ => ⟨S1x1x2048, .f32⟩
  | .hbm, ⟨19, _⟩ => ⟨S4x8192x2048, .f32⟩
  | .hbm, ⟨20, _⟩ => ⟨S4x8192x2048, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S_, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S_, .f32⟩
  | .hbm, ⟨57, _⟩ => ⟨S4x8192, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S4x8192x1, .f32⟩
  | .hbm, ⟨66, _⟩ => ⟨S4x8192x1024, .f32⟩
  | .hbm, ⟨67, _⟩ => ⟨S4x8192x1024, .f32⟩
  | .hbm, ⟨68, _⟩ => ⟨S1x1x1024, .f32⟩
  | .hbm, ⟨69, _⟩ => ⟨S4x8192x1024, .f32⟩
  | .hbm, ⟨70, _⟩ => ⟨S4x8192x1024, .f32⟩
  | .hbm, ⟨71, _⟩ => ⟨S_, .f32⟩
  | .hbm, ⟨72, _⟩ => ⟨S4x1x1024, .f32⟩
  | .hbm, ⟨73, _⟩ => ⟨S4x1x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S4x8192x1024, .f32⟩
  | .hbm, ⟨78, _⟩ => ⟨S4x8192x2816, .f32⟩
  | .hbm, ⟨79, _⟩ => ⟨S4x8192x2816, .f32⟩
  | .hbm, ⟨80, _⟩ => ⟨S4x8192x2816, .f32⟩
  | .hbm, ⟨81, _⟩ => ⟨S_, .f32⟩
  | .hbm, ⟨82, _⟩ => ⟨S4x8192x2816, .f32⟩
  | .hbm, ⟨83, _⟩ => ⟨S4x8192x2816, .f32⟩
  | .hbm, ⟨84, _⟩ => ⟨S_, .f32⟩
  | .hbm, ⟨85, _⟩ => ⟨S4x8192x2816, .f32⟩
  | .hbm, ⟨86, _⟩ => ⟨S4x8192x2816, .f32⟩
  | .hbm, ⟨87, _⟩ => ⟨S4x8192x2816, .f32⟩
  | .hbm, ⟨88, _⟩ => ⟨S4x8192x2816, .f32⟩
  | .hbm, ⟨89, _⟩ => ⟨S4x8192x2816, .f32⟩
  | .hbm, ⟨90, _⟩ => ⟨S4x8192x1024, .f32⟩
  | .hbm, ⟨91, _⟩ => ⟨S4x8192x1024, .f32⟩
  | .hbm, ⟨92, _⟩ => ⟨S4x8192x1024, .f32⟩
  | .hbm, ⟨93, _⟩ => ⟨S4x8192x1024, .f32⟩
  | .hbm, ⟨94, _⟩ => ⟨S4x8192x1024, .f32⟩
  | .hbm, ⟨95, _⟩ => ⟨S_, .f32⟩
  | .hbm, ⟨96, _⟩ => ⟨S4x8192, .f32⟩
  | .hbm, ⟨97, _⟩ => ⟨S4x8192x1, .f32⟩
  | .hbm, ⟨98, _⟩ => ⟨S_, .f32⟩
  | .hbm, ⟨99, _⟩ => ⟨S4x8192x1, .f32⟩
  | .hbm, ⟨100, _⟩ => ⟨S4x8192x1, .f32⟩
  | .hbm, ⟨101, _⟩ => ⟨S_, .f32⟩
  | .hbm, ⟨102, _⟩ => ⟨S4x8192x1, .f32⟩
  | .hbm, ⟨103, _⟩ => ⟨S4x8192x1, .f32⟩
  | .hbm, ⟨104, _⟩ => ⟨S4x8192x1, .f32⟩
  | .hbm, ⟨105, _⟩ => ⟨S4x8192x1024, .f32⟩
  | .hbm, ⟨106, _⟩ => ⟨S4x8192x1024, .f32⟩
  | .hbm, ⟨107, _⟩ => ⟨S1x1x1024, .f32⟩
  | .hbm, ⟨108, _⟩ => ⟨S4x8192x1024, .f32⟩
  | .hbm, ⟨109, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_9 : Ref sig .tc := ⟨.hbm, 95, rfl⟩
abbrev main_v60 : Ref sig .tc := ⟨.hbm, 96, rfl⟩
abbrev main_v61 : Ref sig .tc := ⟨.hbm, 97, rfl⟩
abbrev main_cst_10 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]
-- ==== Inproj.lean ====
abbrev S4x8192x1024 : Shape := ⟨3, ![4, 8192, 1024]⟩
abbrev S4x1x1024 : Shape := ⟨3, ![4, 1, 1024]⟩
abbrev S1024 : Shape := ⟨1, ![1024]⟩
abbrev S1024x3524 : Shape := ⟨2, ![1024, 3524]⟩
abbrev S128 : Shape := ⟨1, ![128]⟩
abbrev S64 : Shape := ⟨1, ![64]⟩
abbrev S1024x512 : Shape := ⟨2, ![1024, 512]⟩
abbrev S1024x1024 : Shape := ⟨2, ![1024, 1024]⟩
abbrev S1024x128 : Shape := ⟨2, ![1024, 128]⟩
abbrev S1024x64 : Shape := ⟨2, ![1024, 64]⟩
abbrev S1024x2752 : Shape := ⟨2, ![1024, 2752]⟩
abbrev S1024x256 : Shape := ⟨2, ![1024, 256]⟩
abbrev S1024x4 : Shape := ⟨2, ![1024, 4]⟩
abbrev S_ : Shape := ⟨0, ![]⟩
abbrev S1024x8 : Shape := ⟨2, ![1024, 8]⟩
abbrev S1024x904 : Shape := ⟨2, ![1024, 904]⟩
abbrev S904x1024 : Shape := ⟨2, ![904, 1024]⟩
abbrev S1x1024 : Shape := ⟨2, ![1, 1024]⟩
abbrev S1x128 : Shape := ⟨2, ![1, 128]⟩
abbrev S128x1 : Shape := ⟨2, ![128, 1]⟩
abbrev S1x64 : Shape := ⟨2, ![1, 64]⟩
abbrev S4x4x8192x128 : Shape := ⟨4, ![4, 4, 8192, 128]⟩
abbrev S4x8192x128 : Shape := ⟨3, ![4, 8192, 128]⟩
abbrev S4x8192x64 : Shape := ⟨3, ![4, 8192, 64]⟩
abbrev S4x512x8192 : Shape := ⟨3, ![4, 512, 8192]⟩
abbrev S4x256x8192 : Shape := ⟨3, ![4, 256, 8192]⟩
abbrev S4x32x136x256 : Shape := ⟨4, ![4, 32, 136, 256]⟩
abbrev S4x8x8192 : Shape := ⟨3, ![4, 8, 8192]⟩
abbrev S1x512x1024 : Shape := ⟨3, ![1, 512, 1024]⟩
abbrev S1x1x1024 : Shape := ⟨3, ![1, 1, 1024]⟩
abbrev S1x4x512x128 : Shape := ⟨4, ![1, 4, 512, 128]⟩
abbrev S1x512x128 : Shape := ⟨3, ![1, 512, 128]⟩
abbrev S1x512x64 : Shape := ⟨3, ![1, 512, 64]⟩
abbrev S1x512x512 : Shape := ⟨3, ![1, 512, 512]⟩
abbrev S1x256x512 : Shape := ⟨3, ![1, 256, 512]⟩
abbrev S1x2x136x256 : Shape := ⟨4, ![1, 2, 136, 256]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S512x2752 : Shape := ⟨2, ![512, 2752]⟩
abbrev S512x128 : Shape := ⟨2, ![512, 128]⟩
abbrev S1x1x512x128 : Shape := ⟨4, ![1, 1, 512, 128]⟩
abbrev S512x64 : Shape := ⟨2, ![512, 64]⟩
abbrev S904x512 : Shape := ⟨2, ![904, 512]⟩
abbrev S512x512 : Shape := ⟨2, ![512, 512]⟩
abbrev S256x512 : Shape := ⟨2, ![256, 512]⟩
abbrev S128x512 : Shape := ⟨2, ![128, 512]⟩
abbrev S1x512 : Shape := ⟨2, ![1, 512]⟩
abbrev S8x512 : Shape := ⟨2, ![8, 512]⟩
abbrev S8x256 : Shape := ⟨2, ![8, 256]⟩
abbrev S128x256 : Shape := ⟨2, ![128, 256]⟩
abbrev S1x1x128x256 : Shape := ⟨4, ![1, 1, 128, 256]⟩
abbrev S1x1x8x256 : Shape := ⟨4, ![1, 1, 8, 256]⟩

abbrev nBuf : Space → Nat
  | .hbm => 37
  | .vmem => 30
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3524, .f32⟩
  | .hbm, ⟨5, _⟩ => ⟨S128, .f32⟩
  | .hbm, ⟨6, _⟩ => ⟨S64, .f32⟩
  | .hbm, ⟨7, _⟩ => ⟨S1024x512, .f32⟩
  | .hbm, ⟨8, _⟩ => ⟨S1024x1024, .f32⟩
  | .hbm, ⟨9, _⟩ => ⟨S1024x1024, .f32⟩
  | .hbm, ⟨10, _⟩ => ⟨S1024x128, .f32⟩
  | .hbm, ⟨11, _⟩ => ⟨S1024x64, .f32⟩
  | .hbm, ⟨12, _⟩ => ⟨S1024x2752, .f32⟩
  | .hbm, ⟨13, _⟩ => ⟨S1024x2752, .bf16⟩
  | .hbm, ⟨14, _⟩ => ⟨S1024x512, .f32⟩
  | .hbm, ⟨15, _⟩ => ⟨S1024x256, .f32⟩
  | .hbm, ⟨16, _⟩ => ⟨S1024x128, .f32⟩
  | .hbm, ⟨17, _⟩ => ⟨S1024x4, .f32⟩
  | .hbm, ⟨18, _⟩ => ⟨S_, .i32⟩
  | .hbm, ⟨19, _⟩ => ⟨S_, .f32⟩
  | .hbm, ⟨20, _⟩ => ⟨S1024x8, .f32⟩
  | .hbm, ⟨21, _⟩ => ⟨S1024x904, .f32⟩
  | .hbm, ⟨22, _⟩ => ⟨S904x1024, .f32⟩
  | .hbm, ⟨23, _⟩ => ⟨S904x1024, .bf16⟩
  | .hbm, ⟨24, _⟩ => ⟨S1x1024, .f32⟩
  | .hbm, ⟨25, _⟩ => ⟨S1x128, .f32⟩
  | .hbm, ⟨26, _⟩ => ⟨S128x1, .f32⟩
  | .hbm, ⟨27, _⟩ => ⟨S1x64, .f32⟩
  | .hbm, ⟨28, _⟩ => ⟨S4x4x8192x128, .f32⟩
  | .hbm, ⟨29, _⟩ => ⟨S4x8192x1024, .bf16⟩
  | .hbm, ⟨30, _⟩ => ⟨S4x8192x1024, .bf16⟩
  | .hbm, ⟨31, _⟩ => ⟨S4x8192x128, .bf16⟩
  | .hbm, ⟨32, _⟩ => ⟨S4x8192x64, .bf16⟩
  | .hbm, ⟨33, _⟩ => ⟨S4x512x8192, .bf16⟩
  | .hbm, ⟨34, _⟩ => ⟨S4x256x8192, .bf16⟩
  | .hbm, ⟨35, _⟩ => ⟨S4x32x136x256, .bf16⟩
  | .hbm, ⟨36, _⟩ => ⟨S4x8x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2752, .bf16⟩
  | .local _ .vmem, ⟨8, _⟩ => ⟨S904x1024, .bf16⟩
  | .local _ .vmem, ⟨9, _⟩ => ⟨S1x128, .f32⟩
  | .local _ .vmem, ⟨10, _⟩ => ⟨S128x1, .f32⟩
  | .local _ .vmem, ⟨11, _⟩ => ⟨S1x64, .f32⟩
  | .local _ .vmem, ⟨12, _⟩ => ⟨S1x4x512x128, .f32⟩
  | .local _ .vmem, ⟨13, _⟩ => ⟨S1x4x512x128, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x64, .bf16⟩
  | .local _ .vmem, ⟨21, _⟩ => ⟨S1x512x64, .bf16⟩
  | .local _ .vmem, ⟨22, _⟩ => ⟨S1x512x512, .bf16⟩
  | .local _ .vmem, ⟨23, _⟩ => ⟨S1x512x512, .bf16⟩
  | .local _ .vmem, ⟨24, _⟩ => ⟨S1x256x512, .bf16⟩
  | .local _ .vmem, ⟨25, _⟩ => ⟨S1x256x512, .bf16⟩
  | .local _ .vmem, ⟨26, _⟩ => ⟨S1x2x136x256, .bf16⟩
  | .local _ .vmem, ⟨27, _⟩ => ⟨S1x2x136x256, .bf16⟩
  | .local _ .vmem, ⟨28, _⟩ => ⟨S1x8x512, .f32⟩
  | .local _ .vmem, ⟨29, _⟩ => ⟨S1x8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev main_v19_5 : Ref sig .tc := ⟨.hbm, 33, rfl⟩
abbrev main_v19_6 : Ref sig .tc := ⟨.hbm, 34, rfl⟩
abbrev main_v19_7 : Ref sig .tc := ⟨.hbm, 35, rfl⟩
abbrev main_v19_8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2752 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S904x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x136x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InprojRefIdeal.lean ====
abbrev S4x8192x1024 : Shape := ⟨3, ![4, 8192, 1024]⟩
abbrev S4x1x1024 : Shape := ⟨3, ![4, 1, 1024]⟩
abbrev S1024 : Shape := ⟨1, ![1024]⟩
abbrev S1024x3524 : Shape := ⟨2, ![1024, 3524]⟩
abbrev S128 : Shape := ⟨1, ![128]⟩
abbrev S64 : Shape := ⟨1, ![64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3524 : Shape := ⟨3, ![4, 8192, 3524]⟩
abbrev S4x8192x512 : Shape := ⟨3, ![4, 8192, 512]⟩
abbrev S4x8192x128 : Shape := ⟨3, ![4, 8192, 128]⟩
abbrev S4x8192x256 : Shape := ⟨3, ![4, 8192, 256]⟩
abbrev S4x8192x64 : Shape := ⟨3, ![4, 8192, 64]⟩
abbrev S4x8192x4 : Shape := ⟨3, ![4, 8192, 4]⟩
abbrev S1x1x128 : Shape := ⟨3, ![1, 1, 128]⟩
abbrev S1x1x64 : Shape := ⟨3, ![1, 1, 64]⟩
abbrev S4x8192x7 : Shape := ⟨3, ![4, 8192, 7]⟩
abbrev S4x8192x8 : Shape := ⟨3, ![4, 8192, 8]⟩
abbrev S4x8192x136 : Shape := ⟨3, ![4, 8192, 136]⟩
abbrev S4x32x256x136 : Shape := ⟨4, ![4, 32, 256, 136]⟩
abbrev S4x8192x4x128 : Shape := ⟨4, ![4, 8192, 4, 128]⟩
abbrev S4x4x8192x128 : Shape := ⟨4, ![4, 4, 8192, 128]⟩
abbrev S4x512x8192 : Shape := ⟨3, ![4, 512, 8192]⟩
abbrev S4x256x8192 : Shape := ⟨3, ![4, 256, 8192]⟩
abbrev S4x32x136x256 : Shape := ⟨4, ![4, 32, 136, 256]⟩
abbrev S4x8x8192 : Shape := ⟨3, ![4, 8, 8192]⟩

abbrev nBuf : Space → Nat
  | .hbm => 94
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x3524, .f32⟩
  | .hbm, ⟨5, _⟩ => ⟨S128, .f32⟩
  | .hbm, ⟨6, _⟩ => ⟨S64, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x8192x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x3524, .f32⟩
  | .hbm, ⟨31, _⟩ => ⟨S4x8192x512, .f32⟩
  | .hbm, ⟨32, _⟩ => ⟨S4x8192x512, .f32⟩
  | .hbm, ⟨33, _⟩ => ⟨S4x8192x128, .f32⟩
  | .hbm, ⟨34, _⟩ => ⟨S4x8192x256, .f32⟩
  | .hbm, ⟨35, _⟩ => ⟨S4x8192x64, .f32⟩
  | .hbm, ⟨36, _⟩ => ⟨S4x8192x4, .f32⟩
  | .hbm, ⟨37, _⟩ => ⟨S4x8192x1024, .f32⟩
  | .hbm, ⟨38, _⟩ => ⟨S4x8192x1024, .f32⟩
  | .hbm, ⟨39, _⟩ => ⟨S4x8192x128, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1, .f32⟩
  | .hbm, ⟨50, _⟩ => ⟨S4x8192x128, .f32⟩
  | .hbm, ⟨51, _⟩ => ⟨S4x8192x128, .f32⟩
  | .hbm, ⟨52, _⟩ => ⟨S1x1x128, .f32⟩
  | .hbm, ⟨53, _⟩ => ⟨S4x8192x128, .f32⟩
  | .hbm, ⟨54, _⟩ => ⟨S4x8192x128, .f32⟩
  | .hbm, ⟨55, _⟩ => ⟨S4x8192x64, .f32⟩
  | .hbm, ⟨56, _⟩ => ⟨S_, .f32⟩
  | .hbm, ⟨57, _⟩ => ⟨S4x8192, .f32⟩
  | .hbm, ⟨58, _⟩ => ⟨S4x8192x1, .f32⟩
  | .hbm, ⟨59, _⟩ => ⟨S_, .f32⟩
  | .hbm, ⟨60, _⟩ => ⟨S4x8192x1, .f32⟩
  | .hbm, ⟨61, _⟩ => ⟨S4x8192x1, .f32⟩
  | .hbm, ⟨62, _⟩ => ⟨S_, .f32⟩
  | .hbm, ⟨63, _⟩ => ⟨S4x8192x1, .f32⟩
  | .hbm, ⟨64, _⟩ => ⟨S4x8192x1, .f32⟩
  | .hbm, ⟨65, _⟩ => ⟨S4x8192x1, .f32⟩
  | .hbm, ⟨66, _⟩ => ⟨S4x8192x64, .f32⟩
  | .hbm, ⟨67, _⟩ => ⟨S4x8192x64, .f32⟩
  | .hbm, ⟨68, _⟩ => ⟨S1x1x64, .f32⟩
  | .hbm, ⟨69, _⟩ => ⟨S4x8192x64, .f32⟩
  | .hbm, ⟨70, _⟩ => ⟨S4x8192x64, .f32⟩
  | .hbm, ⟨71, _⟩ => ⟨S_, .f32⟩
  | .hbm, ⟨72, _⟩ => ⟨S4x8192x1, .f32⟩
  | .hbm, ⟨73, _⟩ => ⟨S_, .f32⟩
  | .hbm, ⟨74, _⟩ => ⟨S4x8192x7, .f32⟩
  | .hbm, ⟨75, _⟩ => ⟨S4x8192x8, .f32⟩
  | .hbm, ⟨76, _⟩ => ⟨S4x8192x136, .f32⟩
  | .hbm, ⟨77, _⟩ => ⟨S4x32x256x136, .f32⟩
  | .hbm, ⟨78, _⟩ => ⟨S_, .f32⟩
  | .hbm, ⟨79, _⟩ => ⟨S4x8192x4, .f32⟩
  | .hbm, ⟨80, _⟩ => ⟨S4x8192x8, .f32⟩
  | .hbm, ⟨81, _⟩ => ⟨S4x8192x4x128, .f32⟩
  | .hbm, ⟨82, _⟩ => ⟨S4x4x8192x128, .f32⟩
  | .hbm, ⟨83, _⟩ => ⟨S4x8192x1024, .bf16⟩
  | .hbm, ⟨84, _⟩ => ⟨S4x8192x1024, .bf16⟩
  | .hbm, ⟨85, _⟩ => ⟨S4x8192x128, .bf16⟩
  | .hbm, ⟨86, _⟩ => ⟨S4x8192x64, .bf16⟩
  | .hbm, ⟨87, _⟩ => ⟨S4x512x8192, .f32⟩
  | .hbm, ⟨88, _⟩ => ⟨S4x512x8192, .bf16⟩
  | .hbm, ⟨89, _⟩ => ⟨S4x256x8192, .f32⟩
  | .hbm, ⟨90, _⟩ => ⟨S4x256x8192, .bf16⟩
  | .hbm, ⟨91, _⟩ => ⟨S4x32x136x256, .f32⟩
  | .hbm, ⟨92, _⟩ => ⟨S4x32x136x256, .bf16⟩
  | .hbm, ⟨93, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Modulation.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S8x1024 : Shape := ⟨2, ![8, 1024]⟩
abbrev S1x6144 : Shape := ⟨2, ![1, 6144]⟩
abbrev S8x6144 : Shape := ⟨2, ![8, 6144]⟩
abbrev S1024x1024 : Shape := ⟨2, ![1024, 1024]⟩
abbrev S1x1024 : Shape := ⟨2, ![1, 1024]⟩
abbrev S4x6144 : Shape := ⟨2, ![4, 6144]⟩
abbrev S4x1x1024 : Shape := ⟨3, ![4, 1, 1024]⟩

abbrev nBuf : Space → Nat
  | .hbm => 21
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1x6144, .f32⟩
  | .hbm, ⟨7, _⟩ => ⟨S8x6144, .f32⟩
  | .hbm, ⟨8, _⟩ => ⟨S4x6144, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩
abbrev S4x1x6144 : Shape := ⟨3, ![4, 1, 6144]⟩
abbrev S4x1x1024 : Shape := ⟨3, ![4, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x6144, .f32⟩
  | .hbm, ⟨2, _⟩ => ⟨S6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x6144, .f32⟩
  | .hbm, ⟨13, _⟩ => ⟨S1x6144, .f32⟩
  | .hbm, ⟨14, _⟩ => ⟨S4x6144, .f32⟩
  | .hbm, ⟨15, _⟩ => ⟨S4x6144, .f32⟩
  | .hbm, ⟨16, _⟩ => ⟨S4x1x6144, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Ssm.lean ====
abbrev S4x4x8192x128 : Shape := ⟨4, ![4, 4, 8192, 128]⟩
abbrev S32x16x256 : Shape := ⟨3, ![32, 16, 256]⟩
abbrev S32x64x256 : Shape := ⟨3, ![32, 64, 256]⟩
abbrev S32x64x1 : Shape := ⟨3, ![32, 64, 1]⟩
abbrev S512 : Shape := ⟨1, ![512]⟩
abbrev S32x16x16x16 : Shape := ⟨4, ![32, 16, 16, 16]⟩
abbrev S_ : Shape := ⟨0, ![]⟩
abbrev S32x16x512 : Shape := ⟨3, ![32, 16, 512]⟩
abbrev S32x1x16x256 : Shape := ⟨4, ![32, 1, 16, 256]⟩
abbrev S32x16x16x256 : Shape := ⟨4, ![32, 16, 16, 256]⟩
abbrev S4x8x256x256 : Shape := ⟨4, ![4, 8, 256, 256]⟩
abbrev S32x64x16x16 : Shape := ⟨4, ![32, 64, 16, 16]⟩
abbrev S32x128x256 : Shape := ⟨3, ![32, 128, 256]⟩
abbrev S4x8x128x256 : Shape := ⟨4, ![4, 8, 128, 256]⟩
abbrev S32x256x64 : Shape := ⟨3, ![32, 256, 64]⟩
abbrev S32x256x128 : Shape := ⟨3, ![32, 256, 128]⟩
abbrev S4x8x256x128 : Shape := ⟨4, ![4, 8, 256, 128]⟩
abbrev S4x1x512 : Shape := ⟨3, ![4, 1, 512]⟩
abbrev S4x2x512 : Shape := ⟨3, ![4, 2, 512]⟩
abbrev S32x1x16 : Shape := ⟨3, ![32, 1, 16]⟩
abbrev S32x16x16 : Shape := ⟨3, ![32, 16, 16]⟩
abbrev S4x8x256x1 : Shape := ⟨4, ![4, 8, 256, 1]⟩
abbrev S1x1x8192x128 : Shape := ⟨4, ![1, 1, 8192, 128]⟩
abbrev S1x8x256x256 : Shape := ⟨4, ![1, 8, 256, 256]⟩
abbrev S1x8x128x256 : Shape := ⟨4, ![1, 8, 128, 256]⟩
abbrev S1x8x256x128 : Shape := ⟨4, ![1, 8, 256, 128]⟩
abbrev S1x2x512 : Shape := ⟨3, ![1, 2, 512]⟩
abbrev S1x8x256x1 : Shape := ⟨4, ![1, 8, 256, 1]⟩
abbrev S8x256x512 : Shape := ⟨3, ![8, 256, 512]⟩
abbrev S512x512 : Shape := ⟨2, ![512, 512]⟩
abbrev S1x1x512x128 : Shape := ⟨4, ![1, 1, 512, 128]⟩
abbrev S512x128 : Shape := ⟨2, ![512, 128]⟩
abbrev S128x512 : Shape := ⟨2, ![128, 512]⟩
abbrev S16x512 : Shape := ⟨2, ![16, 512]⟩
abbrev S1x16x512 : Shape := ⟨3, ![1, 16, 512]⟩
abbrev S1x1x128x256 : Shape := ⟨4, ![1, 1, 128, 256]⟩
abbrev S128x256 : Shape := ⟨2, ![128, 256]⟩
abbrev S1x256x512 : Shape := ⟨3, ![1, 256, 512]⟩
abbrev S256x512 : Shape := ⟨2, ![256, 512]⟩
abbrev S64x512 : Shape := ⟨2, ![64, 512]⟩
abbrev S1x1x512 : Shape := ⟨3, ![1, 1, 512]⟩
abbrev S1x512 : Shape := ⟨2, ![1, 512]⟩
abbrev S8x512 : Shape := ⟨2, ![8, 512]⟩
abbrev S1x1x256x256 : Shape := ⟨4, ![1, 1, 256, 256]⟩
abbrev S256x256 : Shape := ⟨2, ![256, 256]⟩
abbrev S1x1x256x128 : Shape := ⟨4, ![1, 1, 256, 128]⟩
abbrev S256x128 : Shape := ⟨2, ![256, 128]⟩
abbrev S1x1x256x1 : Shape := ⟨4, ![1, 1, 256, 1]⟩
abbrev S256x1 : Shape := ⟨2, ![256, 1]⟩

abbrev nBuf : Space → Nat
  | .hbm => 71
  | .vmem => 20
  | .smem => 0
  | _ => 0

abbrev bufTy : (tb : Table) → Fin (tcTables nBuf tb) → BufTy
  | .hbm, ⟨0, _⟩ => ⟨S4x4x8192x128, .f32⟩
  | .hbm, ⟨1, _⟩ => ⟨S32x16x256, .f32⟩
  | .hbm, ⟨2, _⟩ => ⟨S32x64x256, .f32⟩
  | .hbm, ⟨3, _⟩ => ⟨S32x64x256, .f32⟩
  | .hbm, ⟨4, _⟩ => ⟨S32x64x256, .f32⟩
  | .hbm, ⟨5, _⟩ => ⟨S32x64x256, .f32⟩
  | .hbm, ⟨6, _⟩ => ⟨S32x64x1, .f32⟩
  | .hbm, ⟨7, _⟩ => ⟨S32x64x1, .f32⟩
  | .hbm, ⟨8, _⟩ => ⟨S512, .f32⟩
  | .hbm, ⟨9, _⟩ => ⟨S32x16x16x16, .f32⟩
  | .hbm, ⟨10, _⟩ => ⟨S32x16x16x16, .f32⟩
  | .hbm, ⟨11, _⟩ => ⟨S32x16x256, .f32⟩
  | .hbm, ⟨12, _⟩ => ⟨S_, .i32⟩
  | .hbm, ⟨13, _⟩ => ⟨S_, .f32⟩
  | .hbm, ⟨14, _⟩ => ⟨S32x16x512, .f32⟩
  | .hbm, ⟨15, _⟩ => ⟨S32x16x256, .f32⟩
  | .hbm, ⟨16, _⟩ => ⟨S32x16x256, .f32⟩
  | .hbm, ⟨17, _⟩ => ⟨S32x16x256, .f32⟩
  | .hbm, ⟨18, _⟩ => ⟨S32x16x256, .f32⟩
  | .hbm, ⟨19, _⟩ => ⟨S32x16x256, .f32⟩
  | .hbm, ⟨20, _⟩ => ⟨S32x16x256, .f32⟩
  | .hbm, ⟨21, _⟩ => ⟨S32x16x256, .f32⟩
  | .hbm, ⟨22, _⟩ => ⟨S32x16x256, .f32⟩
  | .hbm, ⟨23, _⟩ => ⟨S32x16x256, .f32⟩
  | .hbm, ⟨24, _⟩ => ⟨S32x16x256, .f32⟩
  | .hbm, ⟨25, _⟩ => ⟨S32x16x256, .f32⟩
  | .hbm, ⟨26, _⟩ => ⟨S32x16x256, .f32⟩
  | .hbm, ⟨27, _⟩ => ⟨S32x16x256, .f32⟩
  | .hbm, ⟨28, _⟩ => ⟨S32x16x256, .f32⟩
  | .hbm, ⟨29, _⟩ => ⟨S32x16x256, .f32⟩
  | .hbm, ⟨30, _⟩ => ⟨S32x16x256, .f32⟩
  | .hbm, ⟨31, _⟩ => ⟨S32x1x16x256, .f32⟩
  | .hbm, ⟨32, _⟩ => ⟨S32x1x16x256, .f32⟩
  | .hbm, ⟨33, _⟩ => ⟨S32x1x16x256, .f32⟩
  | .hbm, ⟨34, _⟩ => ⟨S32x1x16x256, .f32⟩
  | .hbm, ⟨35, _⟩ => ⟨S32x1x16x256, .f32⟩
  | .hbm, ⟨36, _⟩ => ⟨S32x1x16x256, .f32⟩
  | .hbm, ⟨37, _⟩ => ⟨S32x1x16x256, .f32⟩
  | .hbm, ⟨38, _⟩ => ⟨S32x1x16x256, .f32⟩
  | .hbm, ⟨39, _⟩ => ⟨S32x1x16x256, .f32⟩
  | .hbm, ⟨40, _⟩ => ⟨S32x1x16x256, .f32⟩
  | .hbm, ⟨41, _⟩ => ⟨S32x1x16x256, .f32⟩
  | .hbm, ⟨42, _⟩ => ⟨S32x1x16x256, .f32⟩
  | .hbm, ⟨43, _⟩ => ⟨S32x1x16x256, .f32⟩
  | .hbm, ⟨44, _⟩ => ⟨S32x1x16x256, .f32⟩
  | .hbm, ⟨45, _⟩ => ⟨S32x1x16x256, .f32⟩
  | .hbm, ⟨46, _⟩ => ⟨S32x1x16x256, .f32⟩
  | .hbm, ⟨47, _⟩ => ⟨S32x16x16x256, .f32⟩
  | .hbm, ⟨48, _⟩ => ⟨S4x8x256x256, .f32⟩
  | .hbm, ⟨49, _⟩ => ⟨S4x8x256x256, .bf16⟩
  | .hbm, ⟨50, _⟩ => ⟨S32x64x16x16, .f32⟩
  | .hbm, ⟨51, _⟩ => ⟨S32x64x16x16, .f32⟩
  | .hbm, ⟨52, _⟩ => ⟨S32x64x256, .f32⟩
  | .hbm, ⟨53, _⟩ => ⟨S32x64x16x16, .f32⟩
  | .hbm, ⟨54, _⟩ => ⟨S32x64x16x16, .f32⟩
  | .hbm, ⟨55, _⟩ => ⟨S32x64x256, .f32⟩
  | .hbm, ⟨56, _⟩ => ⟨S32x128x256, .f32⟩
  | .hbm, ⟨57, _⟩ => ⟨S4x8x128x256, .f32⟩
  | .hbm, ⟨58, _⟩ => ⟨S4x8x128x256, .bf16⟩
  | .hbm, ⟨59, _⟩ => ⟨S32x256x64, .f32⟩
  | .hbm, ⟨60, _⟩ => ⟨S32x256x64, .f32⟩
  | .hbm, ⟨61, _⟩ => ⟨S32x256x128, .f32⟩
  | .hbm, ⟨62, _⟩ => ⟨S4x8x256x128, .f32⟩
  | .hbm, ⟨63, _⟩ => ⟨S4x8x256x128, .bf16⟩
  | .hbm, ⟨64, _⟩ => ⟨S4x1x512, .f32⟩
  | .hbm, ⟨65, _⟩ => ⟨S4x1x512, .f32⟩
  | .hbm, ⟨66, _⟩ => ⟨S4x2x512, .f32⟩
  | .hbm, ⟨67, _⟩ => ⟨S32x1x16, .f32⟩
  | .hbm, ⟨68, _⟩ => ⟨S32x16x16, .f32⟩
  | .hbm, ⟨69, _⟩ => ⟨S4x8x256x1, .f32⟩
  | .hbm, ⟨70, _⟩ => ⟨S4x4x8192x128, .f32⟩
  | .local _ .vmem, ⟨0, _⟩ => ⟨S1x1x8192x128, .f32⟩
  | .local _ .vmem, ⟨1, _⟩ => ⟨S1x1x8192x128, .f32⟩
  | .local _ .vmem, ⟨2, _⟩ => ⟨S1x8x256x256, .bf16⟩
  | .local _ .vmem, ⟨3, _⟩ => ⟨S1x8x256x256, .bf16⟩
  | .local _ .vmem, ⟨4, _⟩ => ⟨S1x8x128x256, .bf16⟩
  | .local _ .vmem, ⟨5, _⟩ => ⟨S1x8x128x256, .bf16⟩
  | .local _ .vmem, ⟨6, _⟩ => ⟨S1x8x256x128, .bf16⟩
  | .local _ .vmem, ⟨7, _⟩ => ⟨S1x8x256x128, .bf16⟩
  | .local _ .vmem, ⟨8, _⟩ => ⟨S1x2x512, .f32⟩
  | .local _ .vmem, ⟨9, _⟩ => ⟨S1x2x512, .f32⟩
  | .local _ .vmem, ⟨10, _⟩ => ⟨S1x8x256x1, .f32⟩
  | .local _ .vmem, ⟨11, _⟩ => ⟨S1x8x256x1, .f32⟩
  | .local _ .vmem, ⟨12, _⟩ => ⟨S1x1x8192x128, .f32⟩
  | .local _ .vmem, ⟨13, _⟩ => ⟨S1x1x8192x128, .f32⟩
  | .local _ .vmem, ⟨14, _⟩ => ⟨S8x256x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S8x256x512, .f32⟩
  | _, _ => ⟨S4x4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c64_i32 : BitVec 32 := 64#32
  let v759 : BitVec 32 := Scalar.addi c0_i32 c64_i32
  let c1_i32 : BitVec 32 := 1#32
  ⟨c0_i32, v759, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c8_i32 : BitVec 32 := 8#32
  let v1381 : BitVec 32 := Scalar.muli arg15 c8_i32
  v1381
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c8_i32 : BitVec 32 := 8#32
  let v1381 : BitVec 32 := Scalar.muli arg15 c8_i32
  let v1382 : BitVec 32 := v1381
  let v1383 : Index := Scalar.indexCast v1382
  let c0_1136 : Index := 0#32
  ![v1383.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Prep.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x64x1 : Shape := ⟨3, ![32, 64, 1]⟩
abbrev S32x1x1 : Shape := ⟨3, ![32, 1, 1]⟩
abbrev S1x32x1x64x1x16 : Shape := ⟨6, ![1, 32, 1, 64, 1, 16]⟩
abbrev S1x32x1x64x16x16 : Shape := ⟨6, ![1, 32, 1, 64, 16, 16]⟩
abbrev S32x64x256 : Shape := ⟨3, ![32, 64, 256]⟩
abbrev S32x16x256 : Shape := ⟨3, ![32, 16, 256]⟩
abbrev S8x64x1 : Shape := ⟨3, ![8, 64, 1]⟩
abbrev S8x1x1 : Shape := ⟨3, ![8, 1, 1]⟩
abbrev S8x64x256 : Shape := ⟨3, ![8, 64, 256]⟩
abbrev S8x16x64 : Shape := ⟨3, ![8, 16, 64]⟩
abbrev S8x16x256 : Shape := ⟨3, ![8, 16, 256]⟩
abbrev S1x64x1 : Shape := ⟨3, ![1, 64, 1]⟩
abbrev S64x1 : Shape := ⟨2, ![64, 1]⟩
abbrev S1x1x1 : Shape := ⟨3, ![1, 1, 1]⟩
abbrev S1x1 : Shape := ⟨2, ![1, 1]⟩
abbrev S1x64x256 : Shape := ⟨3, ![1, 64, 256]⟩
abbrev S64x256 : Shape := ⟨2, ![64, 256]⟩
abbrev S1x256 : Shape := ⟨2, ![1, 256]⟩
abbrev S1x16x64 : Shape := ⟨3, ![1, 16, 64]⟩
abbrev S16x64 : Shape := ⟨2, ![16, 64]⟩
abbrev S16x256 : Shape := ⟨2, ![16, 256]⟩
abbrev S1x16x256 : Shape := ⟨3, ![1, 16, 256]⟩

abbrev nBuf : Space → Nat
  | .hbm => 31
  | .vmem => 32
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S32x16x64, .f32⟩
  | .hbm, ⟨7, _⟩ => ⟨S32x64x1, .f32⟩
  | .hbm, ⟨8, _⟩ => ⟨S32x64x1, .f32⟩
  | .hbm, ⟨9, _⟩ => ⟨S32x1x1, .f32⟩
  | .hbm, ⟨10, _⟩ => ⟨S1x32x1x64x1x16, .f32⟩
  | .hbm, ⟨11, _⟩ => ⟨S1x32x1x64x16x16, .f32⟩
  | .hbm, ⟨12, _⟩ => ⟨S32x64x256, .f32⟩
  | .hbm, ⟨13, _⟩ => ⟨S1x32x1x64x1x16, .f32⟩
  | .hbm, ⟨14, _⟩ => ⟨S1x32x1x64x16x16, .f32⟩
  | .hbm, ⟨15, _⟩ => ⟨S32x64x256, .f32⟩
  | .hbm, ⟨16, _⟩ => ⟨S32x64x16, .f32⟩
  | .hbm, ⟨17, _⟩ => ⟨S1x32x1x64x1x16, .f32⟩
  | .hbm, ⟨18, _⟩ => ⟨S1x32x1x64x16x16, .f32⟩
  | .hbm, ⟨19, _⟩ => ⟨S32x64x256, .f32⟩
  | .hbm, ⟨20, _⟩ => ⟨S32x64x16, .f32⟩
  | .hbm, ⟨21, _⟩ => ⟨S1x32x1x64x1x16, .f32⟩
  | .hbm, ⟨22, _⟩ => ⟨S1x32x1x64x16x16, .f32⟩
  | .hbm, ⟨23, _⟩ => ⟨S32x64x256, .f32⟩
  | .hbm, ⟨24, _⟩ => ⟨S32x16x256, .f32⟩
  | .hbm, ⟨25, _⟩ => ⟨S32x64x256, .f32⟩
  | .hbm, ⟨26, _⟩ => ⟨S32x64x256, .f32⟩
  | .hbm, ⟨27, _⟩ => ⟨S32x64x256, .f32⟩
  | .hbm, ⟨28, _⟩ => ⟨S32x64x256, .f32⟩
  | .hbm, ⟨29, _⟩ => ⟨S32x64x1, .f32⟩
  | .hbm, ⟨30, _⟩ => ⟨S32x64x1, .f32⟩
  | .local _ .vmem, ⟨0, _⟩ => ⟨S8x64x1, .f32⟩
  | .local _ .vmem, ⟨1, _⟩ => ⟨S8x64x1, .f32⟩
  | .local _ .vmem, ⟨2, _⟩ => ⟨S8x64x1, .f32⟩
  | .local _ .vmem, ⟨3, _⟩ => ⟨S8x64x1, .f32⟩
  | .local _ .vmem, ⟨4, _⟩ => ⟨S8x1x1, .f32⟩
  | .local _ .vmem, ⟨5, _⟩ => ⟨S8x1x1, .f32⟩
  | .local _ .vmem, ⟨6, _⟩ => ⟨S8x64x256, .f32⟩
  | .local _ .vmem, ⟨7, _⟩ => ⟨S8x64x256, .f32⟩
  | .local _ .vmem, ⟨8, _⟩ => ⟨S8x64x256, .f32⟩
  | .local _ .vmem, ⟨9, _⟩ => ⟨S8x64x256, .f32⟩
  | .local _ .vmem, ⟨10, _⟩ => ⟨S8x16x64, .f32⟩
  | .local _ .vmem, ⟨11, _⟩ => ⟨S8x16x64, .f32⟩
  | .local _ .vmem, ⟨12, _⟩ => ⟨S8x16x64, .f32⟩
  | .local _ .vmem, ⟨13, _⟩ => ⟨S8x16x64, .f32⟩
  | .local _ .vmem, ⟨14, _⟩ => ⟨S8x64x256, .f32⟩
  | .local _ .vmem, ⟨15, _⟩ => ⟨S8x64x256, .f32⟩
  | .local _ .vmem, ⟨16, _⟩ => ⟨S8x64x256, .f32⟩
  | .local _ .vmem, ⟨17, _⟩ => ⟨S8x64x256, .f32⟩
  | .local _ .vmem, ⟨18, _⟩ => ⟨S8x16x256, .f32⟩
  | .local _ .vmem, ⟨19, _⟩ => ⟨S8x16x256, .f32⟩
  | .local _ .vmem, ⟨20, _⟩ => ⟨S8x64x256, .f32⟩
  | .local _ .vmem, ⟨21, _⟩ => ⟨S8x64x256, .f32⟩
  | .local _ .vmem, ⟨22, _⟩ => ⟨S8x64x256, .f32⟩
  | .local _ .vmem, ⟨23, _⟩ => ⟨S8x64x256, .f32⟩
  | .local _ .vmem, ⟨24, _⟩ => ⟨S8x64x256, .f32⟩
  | .local _ .vmem, ⟨25, _⟩ => ⟨S8x64x256, .f32⟩
  | .local _ .vmem, ⟨26, _⟩ => ⟨S8x64x256, .f32⟩
  | .local _ .vmem, ⟨27, _⟩ => ⟨S8x64x256, .f32⟩
  | .local _ .vmem, ⟨28, _⟩ => ⟨S8x64x1, .f32⟩
  | .local _ .vmem, ⟨29, _⟩ => ⟨S8x64x1, .f32⟩
  | .local _ .vmem, ⟨30, _⟩ => ⟨S8x64x1, .f32⟩
  | .local _ .vmem, ⟨31, _⟩ => ⟨S8x64x1, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev main_v17_2 : Ref sig .tc := ⟨.hbm, 26, rfl⟩
abbrev main_v17_3 : Ref sig .tc := ⟨.hbm, 27, rfl⟩
abbrev main_v17_4 : Ref sig .tc := ⟨.hbm, 28, rfl⟩
abbrev main_v17_5 : Ref sig .tc := ⟨.hbm, 29, rfl⟩
abbrev main_v17_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x64x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x64x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PrepRefIdeal.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S16 : Shape := ⟨1, ![16]⟩
abbrev S1x1x16 : Shape := ⟨3, ![1, 1, 16]⟩
abbrev S32x64x16x1 : Shape := ⟨4, ![32, 64, 16, 1]⟩
abbrev S32x64x1x16 : Shape := ⟨4, ![32, 64, 1, 16]⟩
abbrev S32x64x16x16 : Shape := ⟨4, ![32, 64, 16, 16]⟩
abbrev S32x16x16x16 : Shape := ⟨4, ![32, 16, 16, 16]⟩
abbrev S32x16x256 : Shape := ⟨3, ![32, 16, 256]⟩
abbrev S32x64x256 : Shape := ⟨3, ![32, 64, 256]⟩

abbrev nBuf : Space → Nat
  | .hbm => 158
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S32x16x64, .f32⟩
  | 6 => ⟨S32x16x64, .f32⟩
  | 7 => ⟨S32, .f32⟩
  | 8 => ⟨S32x1, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S_, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S_, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64x1, .f32⟩
  | 36 => ⟨S32x64x16, .f32⟩
  | 37 => ⟨S32x64x16, .f32⟩
  | 38 => ⟨S32x64x1, .f32⟩
  | 39 => ⟨S32x64x16, .f32⟩
  | 40 => ⟨S32x64x16, .f32⟩
  | 41 => ⟨S32x64x16, .f32⟩
  | 42 => ⟨S32x64x1, .f32⟩
  | 43 => ⟨S32x64x16, .f32⟩
  | 44 => ⟨S32x64x16, .f32⟩
  | 45 => ⟨S32x64x1, .f32⟩
  | 46 => ⟨S32x64x16, .f32⟩
  | 47 => ⟨S32x64x16, .f32⟩
  | 48 => ⟨S32x64x16, .f32⟩
  | 49 => ⟨S16, .i32⟩
  | 50 => ⟨S16, .f32⟩
  | 51 => ⟨S32x64, .f32⟩
  | 52 => ⟨S32x64, .f32⟩
  | 53 => ⟨S32x64x1, .f32⟩
  | 54 => ⟨S1x1x16, .f32⟩
  | 55 => ⟨S32x64x16, .f32⟩
  | 56 => ⟨S32x64x16, .f32⟩
  | 57 => ⟨S32x64x16, .f32⟩
  | 58 => ⟨S32x64x16, .f32⟩
  | 59 => ⟨S32x64, .f32⟩
  | 60 => ⟨S32x64, .f32⟩
  | 61 => ⟨S32x64x1, .f32⟩
  | 62 => ⟨S1x1x16, .f32⟩
  | 63 => ⟨S32x64x16, .f32⟩
  | 64 => ⟨S32x64x16, .f32⟩
  | 65 => ⟨S32x64x16, .f32⟩
  | 66 => ⟨S32x64x16, .f32⟩
  | 67 => ⟨S32x64x16, .f32⟩
  | 68 => ⟨S32x64x16, .f32⟩
  | 69 => ⟨S32x64x16, .f32⟩
  | 70 => ⟨S32x64x16x1, .f32⟩
  | 71 => ⟨S32x64x16x1, .f32⟩
  | 72 => ⟨S32x64x1x16, .f32⟩
  | 73 => ⟨S32x64x16x16, .f32⟩
  | 74 => ⟨S32x64x16x16, .f32⟩
  | 75 => ⟨S32x64x16x16, .f32⟩
  | 76 => ⟨S32x64x1x16, .f32⟩
  | 77 => ⟨S32x64x16x16, .f32⟩
  | 78 => ⟨S32x64x16x16, .f32⟩
  | 79 => ⟨S32x64x16x16, .f32⟩
  | 80 => ⟨S32x64x16x16, .f32⟩
  | 81 => ⟨S32x64x1x16, .f32⟩
  | 82 => ⟨S32x64x16x16, .f32⟩
  | 83 => ⟨S32x64x16x16, .f32⟩
  | 84 => ⟨S32x64x16x16, .f32⟩
  | 85 => ⟨S32x64x1x16, .f32⟩
  | 86 => ⟨S32x64x16x16, .f32⟩
  | 87 => ⟨S32x64x16x16, .f32⟩
  | 88 => ⟨S32x64x16x16, .f32⟩
  | 89 => ⟨S32x64x16x16, .f32⟩
  | 90 => ⟨S32x16x16x16, .f32⟩
  | 91 => ⟨S32x16x16x16, .f32⟩
  | 92 => ⟨S32x16x16x16, .f32⟩
  | 93 => ⟨S_, .f32⟩
  | 94 => ⟨S16, .f32⟩
  | 95 => ⟨S16, .f32⟩
  | 96 => ⟨S32x64, .f32⟩
  | 97 => ⟨S32x64, .f32⟩
  | 98 => ⟨S32x64x1, .f32⟩
  | 99 => ⟨S1x1x16, .f32⟩
  | 100 => ⟨S32x64x16, .f32⟩
  | 101 => ⟨S32x64x16, .f32⟩
  | 102 => ⟨S32x64x16, .f32⟩
  | 103 => ⟨S32x64x16, .f32⟩
  | 104 => ⟨S32x64, .f32⟩
  | 105 => ⟨S32x64, .f32⟩
  | 106 => ⟨S32x64x1, .f32⟩
  | 107 => ⟨S1x1x16, .f32⟩
  | 108 => ⟨S32x64x16, .f32⟩
  | 109 => ⟨S32x64x16, .f32⟩
  | 110 => ⟨S32x64x16, .f32⟩
  | 111 => ⟨S32x64x16, .f32⟩
  | 112 => ⟨S32x64x16, .f32⟩
  | 113 => ⟨S32x64x16, .f32⟩
  | 114 => ⟨S32x64x16, .f32⟩
  | 115 => ⟨S32x64x16x1, .f32⟩
  | 116 => ⟨S32x64x16x1, .f32⟩
  | 117 => ⟨S32x64x16, .f32⟩
  | 118 => ⟨S32x64x1x16, .f32⟩
  | 119 => ⟨S32x64x16, .f32⟩
  | 120 => ⟨S32x64x1x16, .f32⟩
  | 121 => ⟨S32x64x16x16, .f32⟩
  | 122 => ⟨S32x64x16x16, .f32⟩
  | 123 => ⟨S32x64x16x16, .f32⟩
  | 124 => ⟨S32x64x16x16, .f32⟩
  | 125 => ⟨S32x64x16x16, .f32⟩
  | 126 => ⟨S32x64x16x16, .f32⟩
  | 127 => ⟨S32x64x16x16, .f32⟩
  | _ => ⟨S32x64, .f32⟩

abbrev hbmTy0_1 (i : Nat) : BufTy := match i % 128 with
  | 0 => ⟨S32x64x16x16, .f32⟩
  | 1 => ⟨S32x64x16x16, .f32⟩
  | 2 => ⟨S32x64x16x16, .f32⟩
  | 3 => ⟨S32x64x16x16, .f32⟩
  | 4 => ⟨S32x64x16x16, .f32⟩
  | 5 => ⟨S32x64x16x16, .f32⟩
  | 6 => ⟨S32x64x16x16, .f32⟩
  | 7 => ⟨S32x64x16x16, .f32⟩
  | 8 => ⟨S32x64, .f32⟩
  | 9 => ⟨S32x64, .f32⟩
  | 10 => ⟨S32x64x1, .f32⟩
  | 11 => ⟨S_, .f32⟩
  | 12 => ⟨S32x64x1, .f32⟩
  | 13 => ⟨S32x64x1, .f32⟩
  | 14 => ⟨S32x64x1, .f32⟩
  | 15 => ⟨S32x64, .f32⟩
  | 16 => ⟨S32x64, .f32⟩
  | 17 => ⟨S32x64x1, .f32⟩
  | 18 => ⟨S_, .f32⟩
  | 19 => ⟨S32x64x1, .f32⟩
  | 20 => ⟨S32x64x1, .f32⟩
  | 21 => ⟨S32x64x1, .f32⟩
  | 22 => ⟨S32x64x1, .f32⟩
  | 23 => ⟨S32x64x1, .f32⟩
  | 24 => ⟨S32x64x1, .f32⟩
  | 25 => ⟨S32x16x256, .f32⟩
  | 26 => ⟨S32x64x256, .f32⟩
  | 27 => ⟨S32x64x256, .f32⟩
  | 28 => ⟨S32x64x256, .f32⟩
  | 29 => ⟨S32x64x256, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_cst_1 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_cst_2 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_cst_3 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩

abbrev nD : Nat := 1
abbrev τ : Topo := Topo.v7x

variable {F : FTy → Type} [FloatOps F]
-- ==== Proof.MergeRow.lean ====
/-
  One token of the merge and the feed-forward network, as extended-real arithmetic. Nothing here names a program: a `Row`
  holds what one token reads (its own row of the activations, its batch element's modulation vectors, the weights), and
  `Row.out` is the row of the result.
-/
module

public import Idealize.ShloMosaic.PureOps.Ideal
public import Idealize.ShloMosaic.PureOps.Ideal.Laws

@[expose] public section

noncomputable section

namespace Cert.MergeRow

open Idealize.ShloMosaic

/-- What one token reads. -/
structure Row where
  x : Fin 1024 → EReal
  y : Fin 512 → EReal
  att : Fin 1024 → EReal
  ga : Fin 1024 → EReal
  gb : Fin 1024 → EReal
  gate1 : Fin 1024 → EReal
  shift2 : Fin 1024 → EReal
  scale2 : Fin 1024 → EReal
  gate2 : Fin 1024 → EReal
  wglu : Fin 512 → Fin 2048 → EReal
  bglu : Fin 2048 → EReal
  wout : Fin 1024 → Fin 1024 → EReal
  norm2 : Fin 1024 → EReal
  wgate : Fin 1024 → Fin 2816 → EReal
  wup : Fin 1024 → Fin 2816 → EReal
  wdown : Fin 2816 → Fin 1024 → EReal
  final : Fin 1024 → EReal

/-- The factor of the root mean square norm of `v`: `1 / sqrt (mean (v * v) + 1e-6)`. -/
def invRms (v : Fin 1024 → EReal) : EReal :=
  Ideal.rsqrt (Ideal.div (∑ k, v k * v k) (Ideal.ofBits .f32 0x44800000#32) + Ideal.ofBits .f32 0x358637BD#32)

namespace Row

variable (R : Row)

/-- The gated linear unit's input: the branch's activations through `w_glu`, with its bias. -/
def glu (j : Fin 2048) : EReal := (∑ k, R.y k * R.wglu k j) + R.bglu j

/-- The state space branch's output: the first half of `glu` times the logistic of the second. -/
def ssm (j : Fin 1024) : EReal :=
  R.glu ⟨j, by omega⟩ * Ideal.logistic (R.glu ⟨1024 + j, by omega⟩)

/-- The two branches under their gates. -/
def merged (j : Fin 1024) : EReal := Ideal.logistic (R.ga j) * R.ssm j + Ideal.logistic (R.gb j) * R.att j

/-- The residual stream after the mixer. -/
def h1 (j : Fin 1024) : EReal := R.x j + R.gate1 j * ∑ k, R.merged k * R.wout k j

/-- The feed-forward network's input: the second norm of `h1`, modulated. -/
def u2 (j : Fin 1024) : EReal := R.h1 j * invRms R.h1 * R.norm2 j * (1 + R.scale2 j) + R.shift2 j

def gateProj (k : Fin 2816) : EReal := ∑ i, R.u2 i * R.wgate i k
def upProj (k : Fin 2816) : EReal := ∑ i, R.u2 i * R.wup i k

/-- A hidden unit: `silu` of the gate projection times the up projection. -/
def hidden (k : Fin 2816) : EReal := R.gateProj k * Ideal.logistic (R.gateProj k) * R.upProj k

/-- The residual stream after the feed-forward network. -/
def h2 (j : Fin 1024) : EReal := R.h1 j + R.gate2 j * ∑ k, R.hidden k * R.wdown k j

/-- The token's row of the result: the final norm of `h2`. -/
def out (j : Fin 1024) : EReal := R.h2 j * invRms R.h2 * R.final j

end Row

/-- A sum over the 2816 hidden units is the sum over the first 1536 and the last 1280. -/
theorem sum_hidden (f : Fin 2816 → EReal) :
    ∑ k, f k = (∑ k : Fin 1536, f ⟨k, by omega⟩) + ∑ k : Fin 1280, f ⟨1536 + k, by omega⟩ := by
  rw [show (∑ k, f k) = ∑ k : Fin (1536 + 1280), f k from rfl, Fin.sum_univ_add]
  rfl

end Cert.MergeRow

end
-- ==== Proof.MergeBlock.lean ====
/-
  The kernel's body at one token: each value that the body computes from the blocks of a grid point, read at row `r` and
  column `j`, is the matching value of MergeRow.lean for the row `r` of the blocks.
-/
module

public import proofs.«01_k».proof.Proof.Gen.MergeIdeal.Frame
public import proofs.«01_k».proof.Proof.MergeRow
public import Idealize.ShloMosaic.Lib.Pointwise
public import Idealize.ShloMosaic.Lib.Pipeline.ValueKit

@[expose] public section

set_option maxRecDepth 16384

noncomputable section

namespace Cert.MergeIdeal.Block

open Cert.MergeIdeal Cert.MergeIdeal.Gen Cert.MergeRow Idealize.ShloMosaic Idealize.ShloMosaic.TcCoe Idealize.SL.Sem

variable (x0 : Vec Ideal S1x512x1024 .f32) (x1 : Vec Ideal S1x4x512x128 .f32) (x2 : Vec Ideal S1x512x1024 .bf16)
  (x3 : Vec Ideal S1x512x1024 .bf16) (x4 : Vec Ideal S1x512x1024 .bf16) (x5 : Vec Ideal S1x1x1024 .f32)
  (x6 : Vec Ideal S1x1x1024 .f32) (x7 : Vec Ideal S1x1x1024 .f32) (x8 : Vec Ideal S1x1x1024 .f32)
  (x9 : Vec Ideal S512x2048 .bf16) (x10 : Vec Ideal S1x2048 .f32) (x11 : Vec Ideal S1024x1024 .bf16)
  (x12 : Vec Ideal S1x1024 .f32) (x13 : Vec Ideal S1024x2816 .bf16) (x14 : Vec Ideal S1024x2816 .bf16)
  (x15 : Vec Ideal S2816x1024 .bf16) (x16 : Vec Ideal S1x1024 .f32)

/-- Row `r` of the blocks. The activations arrive as four slabs of 128 lanes: lane `k` of the row is lane `k % 128` of
    slab `k / 128`. -/
def row (r : Fin 512) : Row where
  x := fun j => x0 (ix3 0 r j)
  y := fun k => x1 (ix4 0 ⟨k / 128, by omega⟩ r ⟨k % 128, by omega⟩)
  att := fun j => x2 (ix3 0 r j)
  ga := fun j => x3 (ix3 0 r j)
  gb := fun j => x4 (ix3 0 r j)
  gate1 := fun j => x5 (ix3 0 0 j)
  shift2 := fun j => x6 (ix3 0 0 j)
  scale2 := fun j => x7 (ix3 0 0 j)
  gate2 := fun j => x8 (ix3 0 0 j)
  wglu := fun k j => x9 (ix2 k j)
  bglu := fun j => x10 (ix2 0 j)
  wout := fun k j => x11 (ix2 k j)
  norm2 := fun j => x12 (ix2 0 j)
  wgate := fun k j => x13 (ix2 k j)
  wup := fun k j => x14 (ix2 k j)
  wdown := fun k j => x15 (ix2 k j)
  final := fun j => x16 (ix2 0 j)

/-- Lane `k` of a token's activations, wherever its slab is. -/
theorem slab_apply (r : Fin 512) (k : Fin 512) :
    (if h : k.val < 128 then x1 (ix4 0 0 r ⟨k.val, h⟩)
      else if h : k.val - 128 < 128 then x1 (ix4 0 1 r ⟨k.val - 128, h⟩)
      else if h : k.val - 128 - 128 < 128 then x1 (ix4 0 2 r ⟨k.val - 128 - 128, h⟩)
      else x1 (ix4 0 3 r ⟨k.val - 128 - 128 - 128, by omega⟩)) = (row x0 x1 x2 x3 x4 x5 x6 x7 x8 x9 x10 x11 x12 x13 x14 x15 x16 r).y k := by
  show _ = x1 (ix4 0 ⟨k.val / 128, _⟩ r ⟨k.val % 128, _⟩)
  split_ifs with h1 h2 h3 <;>
    (congr 2 <;> apply Fin.ext <;> simp only [Fin.val_zero, Fin.val_one, Fin.val_two, Fin.isValue] <;> omega)

/-- The state space branch under its gate. -/
theorem pay9_apply (r : Fin 512) (j : Fin 1024) :
    k0_pay9 x0 x1 x2 x3 x4 x5 x6 x7 x8 x9 x10 x11 x12 x13 x14 x15 x16 (ix2 r j)
      = Ideal.logistic ((row x0 x1 x2 x3 x4 x5 x6 x7 x8 x9 x10 x11 x12 x13 x14 x15 x16 r).ga j) * (row x0 x1 x2 x3 x4 x5 x6 x7 x8 x9 x10 x11 x12 x13 x14 x15 x16 r).ssm j := by
  unfold k0_pay9
  pointwise [k0_pay3]
  simp only [slab_apply x0 x1 x2 x3 x4 x5 x6 x7 x8 x9 x10 x11 x12 x13 x14 x15 x16]
  rfl

/-- The residual stream after the mixer. -/
theorem pay10_apply (r : Fin 512) (j : Fin 1024) :
    k0_pay10 x0 x1 x2 x3 x4 x5 x6 x7 x8 x9 x10 x11 x12 x13 x14 x15 x16 (ix2 r j) = (row x0 x1 x2 x3 x4 x5 x6 x7 x8 x9 x10 x11 x12 x13 x14 x15 x16 r).h1 j := by
  unfold k0_pay10 k0_pay8
  pointwise [k0_pay4, k0_pay2, pay9_apply]
  rfl

/-- Its norm, scaled. -/
theorem pay11_apply (r : Fin 512) (j : Fin 1024) :
    k0_pay11 x0 x1 x2 x3 x4 x5 x6 x7 x8 x9 x10 x11 x12 x13 x14 x15 x16 (ix2 r j)
      = (row x0 x1 x2 x3 x4 x5 x6 x7 x8 x9 x10 x11 x12 x13 x14 x15 x16 r).h1 j * invRms (row x0 x1 x2 x3 x4 x5 x6 x7 x8 x9 x10 x11 x12 x13 x14 x15 x16 r).h1 * (row x0 x1 x2 x3 x4 x5 x6 x7 x8 x9 x10 x11 x12 x13 x14 x15 x16 r).norm2 j * (1 + (row x0 x1 x2 x3 x4 x5 x6 x7 x8 x9 x10 x11 x12 x13 x14 x15 x16 r).scale2 j) := by
  unfold k0_pay11
  unfold k0_pay5
  rw [show k0_pay4 (k0_pay8 x0 x1 x2 x3 x4 x5 x6 x7 x8 x9 x10 x11 x12 x13 x14 x15 x16) (k0_pay9 x0 x1 x2 x3 x4 x5 x6 x7 x8 x9 x10 x11 x12 x13 x14 x15 x16) (View.ld x4 r0_0) (View.ld x2 r0_0) (View.ld x5 r0_7) (View.ld x11 r0_8) = k0_pay10 x0 x1 x2 x3 x4 x5 x6 x7 x8 x9 x10 x11 x12 x13 x14 x15 x16 from rfl]
  pointwise [pay10_apply]
  rfl

/-- The residual stream after the feed-forward network, whose hidden units the body takes in two pieces. -/
theorem pay6_apply (r : Fin 512) (j : Fin 1024) :
    k0_pay6 (k0_pay10 x0 x1 x2 x3 x4 x5 x6 x7 x8 x9 x10 x11 x12 x13 x14 x15 x16) (k0_pay11 x0 x1 x2 x3 x4 x5 x6 x7 x8 x9 x10 x11 x12 x13 x14 x15 x16) (View.ld x6 r0_7) (View.ld x13 r0_10) (View.ld x14 r0_10) (View.ld x15 r0_11)
      (View.ld x13 r0_12) (View.ld x14 r0_12) (View.ld x15 r0_13) (View.ld x8 r0_7) (ix2 r j) = (row x0 x1 x2 x3 x4 x5 x6 x7 x8 x9 x10 x11 x12 x13 x14 x15 x16 r).h2 j := by
  unfold Row.h2
  rw [sum_hidden]
  pointwise [k0_pay6, pay10_apply, pay11_apply]
  rfl

/-- What the body writes back at row `r`, column `j`. -/
theorem out_apply (r : Fin 512) (j : Fin 1024) :
    out0_17 x0 x1 x2 x3 x4 x5 x6 x7 x8 x9 x10 x11 x12 x13 x14 x15 x16 (ix3 0 r j) = (row x0 x1 x2 x3 x4 x5 x6 x7 x8 x9 x10 x11 x12 x13 x14 x15 x16 r).out j := by
  unfold out0_17
  rw [View.canon_unit_zero (by funext a; fin_cases a <;> rfl)]
  pointwise [k0_pay1, k0_pay7, pay6_apply]
  rfl

end Cert.MergeIdeal.Block

end
-- ==== Proof.MergeReference.lean ====
/-
  The reference at one token: each stage of its host program, read at batch element `b`, token `t` and column `j`, is the
  matching value of MergeRow.lean for row `(b, t)` of the arguments.
-/
module

public import proofs.«01_k».proof.Proof.Gen.MergeRefIdeal.Read
public import proofs.«01_k».proof.Proof.MergeRow
public import Idealize.ShloMosaic.Lib.Pointwise

@[expose] public section

set_option maxRecDepth 16384

noncomputable section

namespace Cert.MergeRefIdeal.Token

open Cert.MergeRefIdeal Cert.MergeRefIdeal.Gen Cert.MergeRefIdeal.Read Cert.MergeRow Idealize.ShloMosaic Idealize.ShloMosaic.TcCoe Idealize.SL.Sem

variable (x0 : (⟨S4x8192x1024, .f32⟩ : BufTy).Contents (Elt Ideal)) (x1 : (⟨S4x8192x512, .f32⟩ : BufTy).Contents (Elt Ideal))
  (x2 x3 x4 : (⟨S4x8192x1024, .f32⟩ : BufTy).Contents (Elt Ideal)) (x5 x6 x7 x8 : (⟨S4x1x1024, .f32⟩ : BufTy).Contents (Elt Ideal))
  (x9 : (⟨S512x2048, .f32⟩ : BufTy).Contents (Elt Ideal)) (x10 : (⟨S2048, .f32⟩ : BufTy).Contents (Elt Ideal))
  (x11 : (⟨S1024x1024, .f32⟩ : BufTy).Contents (Elt Ideal)) (x12 : (⟨S1024, .f32⟩ : BufTy).Contents (Elt Ideal))
  (x13 x14 : (⟨S1024x2816, .f32⟩ : BufTy).Contents (Elt Ideal)) (x15 : (⟨S2816x1024, .f32⟩ : BufTy).Contents (Elt Ideal))
  (x16 : (⟨S1024, .f32⟩ : BufTy).Contents (Elt Ideal))

/-- Token `t` of batch element `b` of the arguments. -/
def row (b : Fin 4) (t : Fin 8192) : Row where
  x := fun j => x0 (ix3 b t j)
  y := fun k => x1 (ix3 b t k)
  att := fun j => x2 (ix3 b t j)
  ga := fun j => x3 (ix3 b t j)
  gb := fun j => x4 (ix3 b t j)
  gate1 := fun j => x5 (ix3 b 0 j)
  shift2 := fun j => x6 (ix3 b 0 j)
  scale2 := fun j => x7 (ix3 b 0 j)
  gate2 := fun j => x8 (ix3 b 0 j)
  wglu := fun k j => x9 (ix2 k j)
  bglu := fun j => x10 (ix1 j)
  wout := fun k j => x11 (ix2 k j)
  norm2 := fun j => x12 (ix1 j)
  wgate := fun k j => x13 (ix2 k j)
  wup := fun k j => x14 (ix2 k j)
  wdown := fun k j => x15 (ix2 k j)
  final := fun j => x16 (ix1 j)

/-- The host writes the logistic function out. -/
theorem logistic_eq (a : EReal) : Ideal.div 1 (1 + Ideal.exp (-a)) = Ideal.logistic a := rfl

/-- The gated linear unit's input. -/
theorem val_main_v3_token (b : Fin 4) (t : Fin 8192) (j : Fin 2048) :
    val_main_v3 (F := Ideal) x1 x9 x10 (ix3 b t j)
      = (row x0 x1 x2 x3 x4 x5 x6 x7 x8 x9 x10 x11 x12 x13 x14 x15 x16 b t).glu j := by
  pointwise [val_main_v0, val_main_v1, val_main_v2, val_main_v3, logistic_eq]
  rfl

/-- The state space branch's output. -/
theorem val_main_v12_token (b : Fin 4) (t : Fin 8192) (j : Fin 1024) :
    val_main_v12 (F := Ideal) x1 x9 x10 (ix3 b t j)
      = (row x0 x1 x2 x3 x4 x5 x6 x7 x8 x9 x10 x11 x12 x13 x14 x15 x16 b t).ssm j := by
  pointwise [val_main_v4, val_main_v5, val_main_v6, val_main_v7, val_main_cst, val_main_v8, val_main_v9, val_main_cst_0, val_main_v10, val_main_v11, val_main_v12, logistic_eq, val_main_v3_token x0 x1 x2 x3 x4 x5 x6 x7 x8 x9 x10 x11 x12 x13 x14 x15 x16]
  rfl

/-- The branches under their gates. -/
theorem val_main_v27_token (b : Fin 4) (t : Fin 8192) (j : Fin 1024) :
    val_main_v27 (F := Ideal) x1 x2 x3 x4 x9 x10 (ix3 b t j)
      = (row x0 x1 x2 x3 x4 x5 x6 x7 x8 x9 x10 x11 x12 x13 x14 x15 x16 b t).merged j := by
  pointwise [val_main_v13, val_main_v14, val_main_cst_1, val_main_v15, val_main_v16, val_main_cst_2, val_main_v17, val_main_v18, val_main_v19, val_main_v20, val_main_v21, val_main_cst_3, val_main_v22, val_main_v23, val_main_cst_4, val_main_v24, val_main_v25, val_main_v26, val_main_v27, logistic_eq, val_main_v3_token x0 x1 x2 x3 x4 x5 x6 x7 x8 x9 x10 x11 x12 x13 x14 x15 x16, val_main_v12_token x0 x1 x2 x3 x4 x5 x6 x7 x8 x9 x10 x11 x12 x13 x14 x15 x16]
  rfl

/-- The residual stream after the mixer. -/
theorem val_main_v31_token (b : Fin 4) (t : Fin 8192) (j : Fin 1024) :
    val_main_v31 (F := Ideal) x0 x1 x2 x3 x4 x5 x9 x10 x11 (ix3 b t j)
      = (row x0 x1 x2 x3 x4 x5 x6 x7 x8 x9 x10 x11 x12 x13 x14 x15 x16 b t).h1 j := by
  pointwise [val_main_v28, val_main_v29, val_main_v30, val_main_v31, logistic_eq, val_main_v3_token x0 x1 x2 x3 x4 x5 x6 x7 x8 x9 x10 x11 x12 x13 x14 x15 x16, val_main_v12_token x0 x1 x2 x3 x4 x5 x6 x7 x8 x9 x10 x11 x12 x13 x14 x15 x16, val_main_v27_token x0 x1 x2 x3 x4 x5 x6 x7 x8 x9 x10 x11 x12 x13 x14 x15 x16]
  rfl

/-- The feed-forward network's input. -/
theorem val_main_v50_token (b : Fin 4) (t : Fin 8192) (j : Fin 1024) :
    val_main_v50 (F := Ideal) x0 x1 x2 x3 x4 x5 x6 x7 x9 x10 x11 x12 (ix3 b t j)
      = (row x0 x1 x2 x3 x4 x5 x6 x7 x8 x9 x10 x11 x12 x13 x14 x15 x16 b t).u2 j := by
  pointwise [val_main_v32, val_main_cst_5, val_main_v33, val_main_v34, val_main_cst_6, val_main_v35, val_main_v36, val_main_cst_7, val_main_v37, val_main_v38, val_main_v39, val_main_v40, val_main_v41, val_main_v42, val_main_v43, val_main_v44, val_main_cst_8, val_main_v45, val_main_v46, val_main_v47, val_main_v48, val_main_v49, val_main_v50, logistic_eq, val_main_v3_token x0 x1 x2 x3 x4 x5 x6 x7 x8 x9 x10 x11 x12 x13 x14 x15 x16, val_main_v12_token x0 x1 x2 x3 x4 x5 x6 x7 x8 x9 x10 x11 x12 x13 x14 x15 x16, val_main_v27_token x0 x1 x2 x3 x4 x5 x6 x7 x8 x9 x10 x11 x12 x13 x14 x15 x16, val_main_v31_token x0 x1 x2 x3 x4 x5 x6 x7 x8 x9 x10 x11 x12 x13 x14 x15 x16]
  rfl

/-- A hidden unit. -/
theorem val_main_v54_token (b : Fin 4) (t : Fin 8192) (j : Fin 2816) :
    val_main_v54 (F := Ideal) x0 x1 x2 x3 x4 x5 x6 x7 x9 x10 x11 x12 x13 x14 (ix3 b t j)
      = (row x0 x1 x2 x3 x4 x5 x6 x7 x8 x9 x10 x11 x12 x13 x14 x15 x16 b t).hidden j := by
  pointwise [val_main_v51, val_main_call0_v0, val_main_call0_v1, val_main_call0_cst, val_main_call0_v2, val_main_call0_v3, val_main_call0_cst_0, val_main_call0_v4, val_main_call0_v5, val_main_v52, val_main_v53, val_main_v54, logistic_eq, val_main_v3_token x0 x1 x2 x3 x4 x5 x6 x7 x8 x9 x10 x11 x12 x13 x14 x15 x16, val_main_v12_token x0 x1 x2 x3 x4 x5 x6 x7 x8 x9 x10 x11 x12 x13 x14 x15 x16, val_main_v27_token x0 x1 x2 x3 x4 x5 x6 x7 x8 x9 x10 x11 x12 x13 x14 x15 x16, val_main_v31_token x0 x1 x2 x3 x4 x5 x6 x7 x8 x9 x10 x11 x12 x13 x14 x15 x16, val_main_v50_token x0 x1 x2 x3 x4 x5 x6 x7 x8 x9 x10 x11 x12 x13 x14 x15 x16]
  rfl

/-- The residual stream after the feed-forward network. -/
theorem val_main_v58_token (b : Fin 4) (t : Fin 8192) (j : Fin 1024) :
    val_main_v58 (F := Ideal) x0 x1 x2 x3 x4 x5 x6 x7 x8 x9 x10 x11 x12 x13 x14 x15 (ix3 b t j)
      = (row x0 x1 x2 x3 x4 x5 x6 x7 x8 x9 x10 x11 x12 x13 x14 x15 x16 b t).h2 j := by
  pointwise [val_main_v55, val_main_v56, val_main_v57, val_main_v58, logistic_eq, val_main_v3_token x0 x1 x2 x3 x4 x5 x6 x7 x8 x9 x10 x11 x12 x13 x14 x15 x16, val_main_v12_token x0 x1 x2 x3 x4 x5 x6 x7 x8 x9 x10 x11 x12 x13 x14 x15 x16, val_main_v27_token x0 x1 x2 x3 x4 x5 x6 x7 x8 x9 x10 x11 x12 x13 x14 x15 x16, val_main_v31_token x0 x1 x2 x3 x4 x5 x6 x7 x8 x9 x10 x11 x12 x13 x14 x15 x16, val_main_v50_token x0 x1 x2 x3 x4 x5 x6 x7 x8 x9 x10 x11 x12 x13 x14 x15 x16, val_main_v54_token x0 x1 x2 x3 x4 x5 x6 x7 x8 x9 x10 x11 x12 x13 x14 x15 x16]
  rfl

/-- The result. -/
theorem val_main_v71_token (b : Fin 4) (t : Fin 8192) (j : Fin 1024) :
    val_main_v71 (F := Ideal) x0 x1 x2 x3 x4 x5 x6 x7 x8 x9 x10 x11 x12 x13 x14 x15 x16 (ix3 b t j)
      = (row x0 x1 x2 x3 x4 x5 x6 x7 x8 x9 x10 x11 x12 x13 x14 x15 x16 b t).out j := by
  pointwise [val_main_v59, val_main_cst_9, val_main_v60, val_main_v61, val_main_cst_10, val_main_v62, val_main_v63, val_main_cst_11, val_main_v64, val_main_v65, val_main_v66, val_main_v67, val_main_v68, val_main_v69, val_main_v70, val_main_v71, logistic_eq, val_main_v3_token x0 x1 x2 x3 x4 x5 x6 x7 x8 x9 x10 x11 x12 x13 x14 x15 x16, val_main_v12_token x0 x1 x2 x3 x4 x5 x6 x7 x8 x9 x10 x11 x12 x13 x14 x15 x16, val_main_v27_token x0 x1 x2 x3 x4 x5 x6 x7 x8 x9 x10 x11 x12 x13 x14 x15 x16, val_main_v31_token x0 x1 x2 x3 x4 x5 x6 x7 x8 x9 x10 x11 x12 x13 x14 x15 x16, val_main_v50_token x0 x1 x2 x3 x4 x5 x6 x7 x8 x9 x10 x11 x12 x13 x14 x15 x16, val_main_v54_token x0 x1 x2 x3 x4 x5 x6 x7 x8 x9 x10 x11 x12 x13 x14 x15 x16, val_main_v58_token x0 x1 x2 x3 x4 x5 x6 x7 x8 x9 x10 x11 x12 x13 x14 x15 x16]
  rfl

end Cert.MergeRefIdeal.Token

end
-- ==== Proof.MergeValue.lean ====
/-
  The kernel's result array as one function of its arguments: element `(b, t, j)` is column `j` of MergeRow.lean's result
  for row `(b, t)` of the arguments.
-/
module

public import proofs.«01_k».proof.Proof.Gen.MergeIdeal.Value
public import proofs.«01_k».proof.Proof.MergeBlock
public import proofs.«01_k».proof.Proof.MergeReference

@[expose] public section

set_option maxRecDepth 16384

noncomputable section

namespace Cert.MergeIdeal.Whole

open Cert.MergeIdeal Cert.MergeIdeal.Gen Cert.MergeRow Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Row `(b, t)` of the arguments. -/
def argRow (c : Dev nD) (b : Fin 4) (t : Fin 8192) : Row :=
  Cert.MergeRefIdeal.Token.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) b t

/-- The result array. -/
def result (c : Dev nD) : S4x8192x1024.Idx → EReal := fun i => (argRow m c (i 0) (i 1)).out (i 2)

/-- Where each window's block lies: grid point `(b, n)` has the 512 tokens from `512 n` of batch element `b`. -/
theorem index_facts : ∀ t : Fin grid0.N,
    (win0_0.index t = ![(grid0.coords t 0).val, (grid0.coords t 1).val, 0]
    ∧ win0_1.index t = ![(grid0.coords t 0).val, 0, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0])
    ∧ (win0_5.index t = ![(grid0.coords t 0).val, 0, 0]
    ∧ win0_6.index t = ![(grid0.coords t 0).val, 0, 0]
    ∧ win0_7.index t = ![(grid0.coords t 0).val, 0, 0]
    ∧ win0_8.index t = ![(grid0.coords t 0).val, 0, 0])
    ∧ (win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0])
    ∧ win0_17.index t = ![(grid0.coords t 0).val, (grid0.coords t 1).val, 0] := by
  decide +kernel

/-! The elements of the blocks as elements of the arguments, window by window. -/

theorem read0 (c : Dev nD) (t : Fin cfg0.N) (r : Fin 512) (b : Fin 4) (n : Fin 8192)
    (hb : b.val = (grid0.coords t 0).val) (hn : n.val = (grid0.coords t 1).val * 512 + r.val) (k : Fin 1024) :
    iblk m c 0 t (ix3 0 r k) = m ((c : Thread nD τ).loc main_arg0) (ix3 b n k) := by
  have e := (index_facts t).1.1
  blk_ext! [iblk, V, e]

theorem read1 (c : Dev nD) (t : Fin cfg0.N) (r : Fin 512) (b : Fin 4) (n : Fin 8192)
    (hb : b.val = (grid0.coords t 0).val) (hn : n.val = (grid0.coords t 1).val * 512 + r.val) (k : Fin 512) :
    iblk m c 1 t (ix4 0 ⟨k / 128, by omega⟩ r ⟨k % 128, by omega⟩) = m ((c : Thread nD τ).loc main_arg1) (ix3 b n k) := by
  have e := (index_facts t).1.2.1
  blk_ext! [iblk, V, e]

theorem read2 (c : Dev nD) (t : Fin cfg0.N) (r : Fin 512) (b : Fin 4) (n : Fin 8192)
    (hb : b.val = (grid0.coords t 0).val) (hn : n.val = (grid0.coords t 1).val * 512 + r.val) (k : Fin 1024) :
    iblk m c 2 t (ix3 0 r k) = m ((c : Thread nD τ).loc main_arg2) (ix3 b n k) := by
  have e := (index_facts t).1.2.2.1
  blk_ext! [iblk, V, e]

theorem read3 (c : Dev nD) (t : Fin cfg0.N) (r : Fin 512) (b : Fin 4) (n : Fin 8192)
    (hb : b.val = (grid0.coords t 0).val) (hn : n.val = (grid0.coords t 1).val * 512 + r.val) (k : Fin 1024) :
    iblk m c 3 t (ix3 0 r k) = m ((c : Thread nD τ).loc main_arg3) (ix3 b n k) := by
  have e := (index_facts t).1.2.2.2.1
  blk_ext! [iblk, V, e]

theorem read4 (c : Dev nD) (t : Fin cfg0.N) (r : Fin 512) (b : Fin 4) (n : Fin 8192)
    (hb : b.val = (grid0.coords t 0).val) (hn : n.val = (grid0.coords t 1).val * 512 + r.val) (k : Fin 1024) :
    iblk m c 4 t (ix3 0 r k) = m ((c : Thread nD τ).loc main_arg4) (ix3 b n k) := by
  have e := (index_facts t).1.2.2.2.2
  blk_ext! [iblk, V, e]

theorem read5 (c : Dev nD) (t : Fin cfg0.N) (b : Fin 4) (hb : b.val = (grid0.coords t 0).val) (k : Fin 1024) :
    iblk m c 5 t (ix3 0 0 k) = m ((c : Thread nD τ).loc main_arg5) (ix3 b 0 k) := by
  have e := (index_facts t).2.1.1
  blk_ext! [iblk, V, e]

theorem read6 (c : Dev nD) (t : Fin cfg0.N) (b : Fin 4) (hb : b.val = (grid0.coords t 0).val) (k : Fin 1024) :
    iblk m c 6 t (ix3 0 0 k) = m ((c : Thread nD τ).loc main_arg6) (ix3 b 0 k) := by
  have e := (index_facts t).2.1.2.1
  blk_ext! [iblk, V, e]

theorem read7 (c : Dev nD) (t : Fin cfg0.N) (b : Fin 4) (hb : b.val = (grid0.coords t 0).val) (k : Fin 1024) :
    iblk m c 7 t (ix3 0 0 k) = m ((c : Thread nD τ).loc main_arg7) (ix3 b 0 k) := by
  have e := (index_facts t).2.1.2.2.1
  blk_ext! [iblk, V, e]

theorem read8 (c : Dev nD) (t : Fin cfg0.N) (b : Fin 4) (hb : b.val = (grid0.coords t 0).val) (k : Fin 1024) :
    iblk m c 8 t (ix3 0 0 k) = m ((c : Thread nD τ).loc main_arg8) (ix3 b 0 k) := by
  have e := (index_facts t).2.1.2.2.2
  blk_ext! [iblk, V, e]

theorem read9 (c : Dev nD) (t : Fin cfg0.N) (k : Fin 512) (l : Fin 2048) :
    iblk m c 9 t (ix2 k l) = m ((c : Thread nD τ).loc main_arg9) (ix2 k l) := by
  have e := (index_facts t).2.2.1.1
  blk_ext! [iblk, V, e]

theorem read10 (c : Dev nD) (t : Fin cfg0.N) (k : Fin 2048) :
    iblk m c 10 t (ix2 0 k) = m ((c : Thread nD τ).loc main_arg10) (ix1 k) := by
  have e := (index_facts t).2.2.1.2.1
  blk_ext! [iblk, V, e]

theorem read11 (c : Dev nD) (t : Fin cfg0.N) (k : Fin 1024) (l : Fin 1024) :
    iblk m c 11 t (ix2 k l) = m ((c : Thread nD τ).loc main_arg11) (ix2 k l) := by
  have e := (index_facts t).2.2.1.2.2.1
  blk_ext! [iblk, V, e]

theorem read12 (c : Dev nD) (t : Fin cfg0.N) (k : Fin 1024) :
    iblk m c 12 t (ix2 0 k) = m ((c : Thread nD τ).loc main_arg12) (ix1 k) := by
  have e := (index_facts t).2.2.1.2.2.2.1
  blk_ext! [iblk, V, e]

theorem read13 (c : Dev nD) (t : Fin cfg0.N) (k : Fin 1024) (l : Fin 2816) :
    iblk m c 13 t (ix2 k l) = m ((c : Thread nD τ).loc main_arg13) (ix2 k l) := by
  have e := (index_facts t).2.2.1.2.2.2.2.1
  blk_ext! [iblk, V, e]

theorem read14 (c : Dev nD) (t : Fin cfg0.N) (k : Fin 1024) (l : Fin 2816) :
    iblk m c 14 t (ix2 k l) = m ((c : Thread nD τ).loc main_arg14) (ix2 k l) := by
  have e := (index_facts t).2.2.1.2.2.2.2.2.1
  blk_ext! [iblk, V, e]

theorem read15 (c : Dev nD) (t : Fin cfg0.N) (k : Fin 2816) (l : Fin 1024) :
    iblk m c 15 t (ix2 k l) = m ((c : Thread nD τ).loc main_arg15) (ix2 k l) := by
  have e := (index_facts t).2.2.1.2.2.2.2.2.2.1
  blk_ext! [iblk, V, e]

theorem read16 (c : Dev nD) (t : Fin cfg0.N) (k : Fin 1024) :
    iblk m c 16 t (ix2 0 k) = m ((c : Thread nD τ).loc main_arg16) (ix1 k) := by
  have e := (index_facts t).2.2.1.2.2.2.2.2.2.2
  blk_ext! [iblk, V, e]

/-- Row `r` of the blocks at grid point `t` is a row of the arguments. -/
theorem row_eq (c : Dev nD) (t : Fin cfg0.N) (r : Fin 512) (b : Fin 4) (n : Fin 8192)
    (hb : b.val = (grid0.coords t 0).val) (hn : n.val = (grid0.coords t 1).val * 512 + r.val) :
    Block.row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r = argRow m c b n := by
  unfold Block.row argRow Cert.MergeRefIdeal.Token.row
  rw [Row.mk.injEq]
  exact ⟨funext (read0 m c t r b n hb hn), funext (read1 m c t r b n hb hn), funext (read2 m c t r b n hb hn),
    funext (read3 m c t r b n hb hn), funext (read4 m c t r b n hb hn), funext (read5 m c t b hb), funext (read6 m c t b hb),
    funext (read7 m c t b hb), funext (read8 m c t b hb), funext fun k => funext (read9 m c t k), funext (read10 m c t),
    funext fun k => funext (read11 m c t k), funext (read12 m c t), funext fun k => funext (read13 m c t k),
    funext fun k => funext (read14 m c t k), funext fun k => funext (read15 m c t k), funext (read16 m c t)⟩

/-- After the run the output window's array is `result`. -/
theorem arrAt_eq (c : Dev nD) : (dats m 0 c).arrAt 17 cfg0.N = result m c := by
  refine (dats m 0 c).arrAt_eq_of_covers 17 _ (by decide +kernel) fun t hf y => ?_
  blk_simp
  rw [after0_17]
  idx_vars y
  obtain rfl : y0 = 0 := Subsingleton.elim _ _
  have e17 := (index_facts t).2.2.2
  rw [Block.out_apply, row_eq m c t y1 ((((View.whole main_v13).slice (win0_17.rect t)).emb (ix3 0 y1 y2)) 0)
    ((((View.whole main_v13).slice (win0_17.rect t)).emb (ix3 0 y1 y2)) 1)]
  · unfold result
    congr 1
    apply Fin.ext
    blk_simp [e17]
  · blk_simp [e17]
    exact Nat.add_zero _
  · blk_simp [e17]

/-- The run: the result buffer ends at `result`, the arguments as launched. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (arrAt_eq m c), (h c).2⟩) (Value.run_blocks m ρ)

end Cert.MergeIdeal.Whole

end
-- ==== Proof.MergeClaims.lean ====
/-
  The claims about the merge and the feed-forward network: the frames of the kernel, of its ideal program and of the
  reference, and the equality of their results over the extended reals.
-/
module

public import proofs.«01_k».proof.Defs
public import proofs.«01_k».proof.Proof.Gen.Merge.Frame
public import proofs.«01_k».proof.Proof.MergeValue

@[expose] public section

set_option maxRecDepth 16384

noncomputable section

namespace Cert.MergeClaims

open Idealize.ShloMosaic Idealize.SL.Sem

theorem frame : Cert.quiescent_Merge := fun m ρ _ => Cert.Merge.Gen.frame m ρ

theorem frame_ideal : Cert.quiescent_MergeIdeal := fun m ρ _ => Cert.MergeIdeal.Gen.frame m ρ

/-- The reference is a host program: it declares no semaphore, and its run leaves the arguments as they were. -/
theorem frame_reference : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

theorem preserves : Cert.preserves_Merge_MergeIdeal := trivial

/-- Both results are MergeRow.lean's row of the arguments at every token. -/
theorem algebraic : Cert.algebraic_MergeIdeal_MergeRefIdeal := by
  intro m ρ m' ρ' _ hagree
  refine ⟨fun c => Cert.MergeIdeal.Whole.result m c, Cert.MergeIdeal.Whole.run m ρ, ?_⟩
  refine (θ_run Cert.MergeRefIdeal.defs _ _).mono (fun _ h c => ⟨(h c).1.trans ?_, (h c).2⟩)
    (Cert.MergeRefIdeal.Value.run (F := Ideal) m' ρ')
  rw [Cert.MergeRefIdeal.Read.val_main_v71_eq]
  obtain ⟨h0, h1, h2, h3, h4, h5, h6, h7, h8, h9, h10, h11, h12, h13, h14, h15, h16⟩ := hagree c
  rw [h0, h1, h2, h3, h4, h5, h6, h7, h8, h9, h10, h11, h12, h13, h14, h15, h16]
  funext i
  idx_vars i
  exact Cert.MergeRefIdeal.Token.val_main_v71_token _ _ _ _ _ _ _ _ _ _ _ _ _ _ _ _ _ _ _ _

end Cert.MergeClaims

end
-- ==== Proof.InprojRow.lean ====
/-
  One token of the input projection over the extended reals: the modulated first norm of its activations, and the product of
  that with one column of the weights. No program is named here; InprojBlock.lean reads the kernel's body as these functions
  and InprojReference.lean the reference.
-/
module

public import Idealize.ShloMosaic.PureOps.Ideal
public import Idealize.ShloMosaic.Lib.Pointwise

@[expose] public section

noncomputable section

namespace Cert.InprojRow

open Idealize.ShloMosaic

/-- What one token reads beside the weights' columns. -/
structure Row where
  x : Fin 1024 → EReal
  shift : Fin 1024 → EReal
  scale : Fin 1024 → EReal
  norm : Fin 1024 → EReal

/-- `1 / sqrt (q / n + 1e-6)`: the factor of a root mean square norm over `n` entries whose squares add up to `q`. -/
def invRms (n q : EReal) : EReal := Ideal.rsqrt (Ideal.div q n + Ideal.ofBits .f32 0x358637BD#32)

/-- The root mean square norm of the 128 latent entries, under its gain. -/
def latent (v g : Fin 128 → EReal) (j : Fin 128) : EReal :=
  v j * invRms (Ideal.ofBits .f32 0x43000000#32) (∑ k, v k * v k) * g j

/-- The root mean square norm of the indexer's 64 key entries, under its gain. -/
def indexKey (v g : Fin 64 → EReal) (j : Fin 64) : EReal :=
  v j * invRms (Ideal.ofBits .f32 0x42800000#32) (∑ k, v k * v k) * g j

/-- The eight rows under a tile of transposed latents: ones, then seven rows of zeros. -/
def underTile (a : ℕ) : EReal := if a = 128 then 1 else 0

namespace Row

variable (R : Row)

/-- The modulated norm of the activations. -/
def u (j : Fin 1024) : EReal :=
  R.x j * invRms (Ideal.ofBits .f32 0x44800000#32) (∑ k, R.x k * R.x k) * R.norm j * (1 + R.scale j) + R.shift j

/-- Its product with one column of the weights. -/
def dot (w : Fin 1024 → EReal) : EReal := ∑ k, R.u k * w k

/-- A column of zeros gives zero. -/
theorem dot_zero : R.dot (fun _ => 0) = 0 := by simp [dot]

end Row

end Cert.InprojRow

end
-- ==== Proof.InprojBlock.lean ====
/-
  The kernel's body at one token: each value that the body computes from the blocks of a grid point, read at one element, is
  the matching value of InprojRow.lean for the row of the blocks and the columns that the body multiplies it by.
-/
module

public import proofs.«01_k».proof.Proof.Gen.InprojIdeal.Frame
public import proofs.«01_k».proof.Proof.InprojRow
public import Idealize.ShloMosaic.Lib.Pointwise
public import Idealize.ShloMosaic.Lib.Pipeline.ValueKit

@[expose] public section

set_option maxRecDepth 16384

noncomputable section

namespace Cert.InprojIdeal.Block

open Cert.InprojIdeal Cert.InprojIdeal.Gen Cert.InprojRow Idealize.ShloMosaic Idealize.ShloMosaic.TcCoe Idealize.SL.Sem

variable (x0 : Vec Ideal S1x512x1024 .f32) (x1 : Vec Ideal S1x1x1024 .f32) (x2 : Vec Ideal S1x1x1024 .f32)
  (x3 : Vec Ideal S1x1024 .f32) (x4 : Vec Ideal S1024x2752 .bf16) (x5 : Vec Ideal S904x1024 .bf16)
  (x6 : Vec Ideal S1x128 .f32) (x7 : Vec Ideal S128x1 .f32) (x8 : Vec Ideal S1x64 .f32)

/-- Row `r` of the blocks; `x1` is the scale's block and `x2` the shift's. -/
def row (r : Fin 512) : Row where
  x := fun j => x0 (ix3 0 r j)
  shift := fun j => x2 (ix3 0 0 j)
  scale := fun j => x1 (ix3 0 0 j)
  norm := fun j => x3 (ix2 0 j)

/-- Column `c` of the weights that the tokens multiply. -/
def col (c : Fin 2752) : Fin 1024 → EReal := fun k => x4 (ix2 k c)

/-- Row `c` of the transposed weights. -/
def colT (c : Fin 904) : Fin 1024 → EReal := fun k => x5 (ix2 c k)

/-- The modulated norm. -/
theorem pay3_apply (r : Fin 512) (j : Fin 1024) : k0_pay3 x0 x3 x1 x2 (ix2 r j) = (row x0 x1 x2 x3 r).u j := by
  unfold k0_pay3
  pointwise []
  rfl

/-- The tokens through the weights. -/
theorem pay4_apply (r : Fin 512) (c : Fin 2752) :
    k0_pay4 x0 x3 x1 x2 x4 (ix2 r c) = (row x0 x1 x2 x3 r).dot (col x4 c) := by
  unfold k0_pay4
  pointwise [pay3_apply]
  rfl

/-- The transposed weights through the tokens. -/
theorem pay15_apply (c : Fin 904) (r : Fin 512) :
    k0_pay15 (k0_pay3 x0 x3 x1 x2) x5 (ix2 c r) = (row x0 x1 x2 x3 r).dot (colT x5 c) := by
  unfold k0_pay15
  pointwise [pay3_apply]
  exact Finset.sum_congr rfl fun k _ => mul_comm _ _

/-- The latent keys. -/
theorem pay13_apply (r : Fin 512) (j : Fin 128) :
    k0_pay13 (k0_pay12 (k0_pay4 x0 x3 x1 x2 x4)) x6 (ix3 0 r j)
      = latent (fun k => (row x0 x1 x2 x3 r).dot (col x4 ⟨2560 + k, by omega⟩)) (fun k => x6 (ix2 0 k)) j := by
  unfold k0_pay13 k0_pay12
  pointwise [pay4_apply]
  rfl

/-- The indexer's keys. -/
theorem pay14_apply (r : Fin 512) (j : Fin 64) :
    k0_pay14 (k0_pay4 x0 x3 x1 x2 x4) x8 (ix3 0 r j)
      = indexKey (fun k => (row x0 x1 x2 x3 r).dot (col x4 ⟨2688 + k, by omega⟩)) (fun k => x8 (ix2 0 k)) j := by
  unfold k0_pay14
  pointwise [pay4_apply]
  rfl

/-- The latent keys, transposed. -/
theorem pay19_apply (a : Fin 128) (r : Fin 512) :
    k0_pay19 (k0_pay15 (k0_pay3 x0 x3 x1 x2) x5) x7 (ix2 a r)
      = latent (fun k => (row x0 x1 x2 x3 r).dot (colT x5 ⟨768 + k, by omega⟩)) (fun k => x7 (ix2 k 0)) a := by
  unfold k0_pay19
  pointwise [pay15_apply]
  rfl

/-- The rows under a tile. -/
theorem pay21_apply (a : Fin 8) (l : Fin 256) : k0_pay21 (F := Ideal) (ix2 a l) = underTile (128 + a.val) := by
  unfold k0_pay21
  pointwise []
  fin_cases a <;> rfl

/-! What the body writes back. -/

/-- The state space branch's channels: four slabs of 128 lanes. -/
theorem out9_apply (s : Fin 4) (r : Fin 512) (j : Fin 128) :
    View.canon (Val := Elt Ideal) (e := .f32) [⟨Rect.unit ![0, 3, 0, 0] ![1, 1, 512, 128] inb_S1x4x512x128_S1x1x512x128_0_3_0_0, k0_pay9 (k0_pay4 x0 x3 x1 x2 x4)⟩,
        ⟨Rect.unit ![0, 2, 0, 0] ![1, 1, 512, 128] inb_S1x4x512x128_S1x1x512x128_0_2_0_0, k0_pay8 (k0_pay4 x0 x3 x1 x2 x4)⟩,
        ⟨Rect.unit ![0, 1, 0, 0] ![1, 1, 512, 128] inb_S1x4x512x128_S1x1x512x128_0_1_0_0, k0_pay7 (k0_pay6 x0 x3 x1 x2 x4)⟩,
        ⟨Rect.unit ![0, 0, 0, 0] ![1, 1, 512, 128] inb_S1x4x512x128_S1x1x512x128_0_0_0_0, k0_pay5 x0 x3 x1 x2 x4⟩] (ix4 0 s r j)
      = (row x0 x1 x2 x3 r).dot (col x4 ⟨128 * s.val + j.val, by omega⟩) := by
  canon_tiles z h
  all_goals
    idx_vars z
    have e1 : s.val = _ := h1
    obtain rfl : r = z2 := Fin.ext h2
    obtain rfl : j = z3 := Fin.ext h3
    pointwise [k0_pay9, k0_pay8, k0_pay7, k0_pay6, k0_pay5, pay4_apply]
    congr 3
    omega

/-- The two gates. -/
theorem out10_apply (r : Fin 512) (j : Fin 1024) :
    k0_pay10 (k0_pay4 x0 x3 x1 x2 x4) (ix3 0 r j) = (row x0 x1 x2 x3 r).dot (col x4 ⟨512 + j.val, by omega⟩) := by
  unfold k0_pay10
  pointwise [pay4_apply]

theorem out11_apply (r : Fin 512) (j : Fin 1024) :
    k0_pay11 (k0_pay4 x0 x3 x1 x2 x4) (ix3 0 r j) = (row x0 x1 x2 x3 r).dot (col x4 ⟨1536 + j.val, by omega⟩) := by
  unfold k0_pay11
  pointwise [pay4_apply]

/-- The queries, transposed. -/
theorem out14_apply (q : Fin 512) (r : Fin 512) :
    k0_pay16 (k0_pay3 x0 x3 x1 x2) x5 (ix3 0 q r) = (row x0 x1 x2 x3 r).dot (colT x5 ⟨q.val, by omega⟩) := by
  unfold k0_pay16
  pointwise [pay15_apply]

/-- The indexer's queries, transposed. -/
theorem out15_apply (q : Fin 256) (r : Fin 512) :
    k0_pay18 (k0_pay17 (k0_pay3 x0 x3 x1 x2) x5) (ix3 0 q r) = (row x0 x1 x2 x3 r).dot (colT x5 ⟨512 + q.val, by omega⟩) := by
  unfold k0_pay18 k0_pay17
  pointwise [pay15_apply]

/-- The indexer's head weights, transposed. -/
theorem out17_apply (a : Fin 8) (r : Fin 512) :
    k0_pay20 (k0_pay15 (k0_pay3 x0 x3 x1 x2) x5) (ix3 0 a r) = (row x0 x1 x2 x3 r).dot (colT x5 ⟨896 + a.val, by omega⟩) := by
  unfold k0_pay20
  pointwise [pay15_apply]

/-- Entry `a` of a tile's column for the token of row `r`. -/
def tile (r : Fin 512) (a : Fin 136) : EReal :=
  if h : a.val < 128 then
    latent (fun k => (row x0 x1 x2 x3 r).dot (colT x5 ⟨768 + k, by omega⟩)) (fun k => x7 (ix2 k 0)) ⟨a.val, h⟩
  else underTile a.val

/-- The two tiles of 256 tokens. -/
theorem out16_apply (p : Fin 2) (a : Fin 136) (l : Fin 256) :
    View.canon (Val := Elt Ideal) (e := .bf16) [⟨Rect.unit ![0, 1, 128, 0] ![1, 1, 8, 256] inb_S1x2x136x256_S1x1x8x256_0_1_128_0, k0_pay2 (k0_pay21 (F := Ideal))⟩,
        ⟨Rect.unit ![0, 1, 0, 0] ![1, 1, 128, 256] inb_S1x2x136x256_S1x1x128x256_0_1_0_0, k0_pay1 (k0_pay19 (k0_pay15 (k0_pay3 x0 x3 x1 x2) x5) x7)⟩,
        ⟨Rect.unit ![0, 0, 128, 0] ![1, 1, 8, 256] inb_S1x2x136x256_S1x1x8x256_0_0_128_0, k0_pay23 (F := Ideal)⟩,
        ⟨Rect.unit ![0, 0, 0, 0] ![1, 1, 128, 256] inb_S1x2x136x256_S1x1x128x256_0_0_0_0, k0_pay22 (k0_pay15 (k0_pay3 x0 x3 x1 x2) x5) x7⟩] (ix4 0 p a l)
      = tile x0 x1 x2 x3 x5 x7 ⟨256 * p.val + l.val, by omega⟩ a := by
  canon_tiles z h using View.cover_of_tiledBy _ ![1, 1, 8, 256] (by sl_kernel_rfl) (ix4 0 p a l)
  all_goals
    idx_vars z
    have e1 : p.val = _ := h1
    have e2 : a.val = _ := h2
    obtain rfl : l = z3 := Fin.ext h3
    first
      | (rw [show a = ⟨128 + z2.val, by omega⟩ from Fin.ext e2]
         pointwise [k0_pay2, k0_pay23, pay21_apply]
         rw [tile, dif_neg (by simp)])
      | (pointwise [k0_pay1, k0_pay22, pay19_apply]
         rw [tile, dif_pos (by omega)]
         congr 1
         · funext k
           congr 2
           apply Fin.ext
           simp only
           omega
         · exact Fin.ext e2.symm)

end Cert.InprojIdeal.Block

end
-- ==== Proof.InprojReference.lean ====
/-
  The reference at one token: each result of its host program, read at one element, is the matching value of InprojRow.lean
  for a token of the arguments and columns of the weights.
-/
module

public import proofs.«01_k».proof.Proof.Gen.InprojRefIdeal.Read
public import proofs.«01_k».proof.Proof.InprojRow
public import Idealize.ShloMosaic.Lib.Pointwise

@[expose] public section

set_option maxRecDepth 16384

noncomputable section

namespace Cert.InprojRefIdeal.Token

open Cert.InprojRefIdeal Cert.InprojRefIdeal.Gen Cert.InprojRefIdeal.Read Cert.InprojRow Idealize.ShloMosaic Idealize.ShloMosaic.TcCoe Idealize.SL.Sem

variable (x0 : (⟨S4x8192x1024, .f32⟩ : BufTy).Contents (Elt Ideal)) (x1 x2 : (⟨S4x1x1024, .f32⟩ : BufTy).Contents (Elt Ideal))
  (x3 : (⟨S1024, .f32⟩ : BufTy).Contents (Elt Ideal)) (x4 : (⟨S1024x3524, .f32⟩ : BufTy).Contents (Elt Ideal))
  (x5 : (⟨S128, .f32⟩ : BufTy).Contents (Elt Ideal)) (x6 : (⟨S64, .f32⟩ : BufTy).Contents (Elt Ideal))

/-- Token `t` of batch element `b` of the arguments. -/
def row (b : Fin 4) (t : Fin 8192) : Row where
  x := fun j => x0 (ix3 b t j)
  shift := fun j => x1 (ix3 b 0 j)
  scale := fun j => x2 (ix3 b 0 j)
  norm := fun j => x3 (ix1 j)

/-- Column `n` of the weights. -/
def col (n : Fin 3524) : Fin 1024 → EReal := fun k => x4 (ix2 k n)

/-- Entry `n` of a token's product with the weights. -/
def proj (b : Fin 4) (t : Fin 8192) (n : Fin 3524) : EReal := (row x0 x1 x2 x3 b t).dot (col x4 n)

/-- A token's normalised latent. -/
def latentAt (b : Fin 4) (t : Fin 8192) (j : Fin 128) : EReal :=
  latent (fun k => proj x0 x1 x2 x3 x4 b t ⟨1024 + k, by omega⟩) (fun k => x5 (ix1 k)) j

/-- A token's normalised indexer key. -/
def indexKeyAt (b : Fin 4) (t : Fin 8192) (j : Fin 64) : EReal :=
  indexKey (fun k => proj x0 x1 x2 x3 x4 b t ⟨1408 + k, by omega⟩) (fun k => x6 (ix1 k)) j

/-! The nine results. -/

/-- The state space branch's channels, in slabs of 128. -/
def slabs (b : Fin 4) (s : Fin 4) (t : Fin 8192) (j : Fin 128) : EReal := proj x0 x1 x2 x3 x4 b t ⟨s.val * 128 + j.val, by omega⟩

/-- The gates. -/
def gateA (b : Fin 4) (t : Fin 8192) (j : Fin 1024) : EReal := proj x0 x1 x2 x3 x4 b t ⟨1476 + j.val, by omega⟩

def gateB (b : Fin 4) (t : Fin 8192) (j : Fin 1024) : EReal := proj x0 x1 x2 x3 x4 b t ⟨2500 + j.val, by omega⟩

/-- The queries, transposed. -/
def query (b : Fin 4) (q : Fin 512) (t : Fin 8192) : EReal := proj x0 x1 x2 x3 x4 b t ⟨512 + q.val, by omega⟩

/-- The indexer's queries, transposed. -/
def indexQuery (b : Fin 4) (q : Fin 256) (t : Fin 8192) : EReal := proj x0 x1 x2 x3 x4 b t ⟨1152 + q.val, by omega⟩

/-- The transposed latents in tiles of 256 tokens, over a row of ones and seven of zeros. -/
def tiles (b : Fin 4) (n : Fin 32) (a : Fin 136) (l : Fin 256) : EReal :=
  if h : a.val < 128 then latentAt x0 x1 x2 x3 x4 x5 b ⟨n.val * 256 + l.val, by omega⟩ ⟨a.val, h⟩ else underTile a.val

/-- The indexer's head weights, transposed, over four rows of zeros. -/
def headWeight (b : Fin 4) (a : Fin 8) (t : Fin 8192) : EReal :=
  if h : a.val < 4 then proj x0 x1 x2 x3 x4 b t ⟨1472 + a.val, by omega⟩ else 0

/-! The stages of the program. -/

theorem val_main_v18_token (b : Fin 4) (t : Fin 8192) (j : Fin 1024) :
    val_main_v18 (F := Ideal) x0 x1 x2 x3 (ix3 b t j) = (row x0 x1 x2 x3 b t).u j := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_cst_2, val_main_v13, val_main_v14, val_main_v15, val_main_v16, val_main_v17, val_main_v18]
  rfl

theorem val_main_v19_token (b : Fin 4) (t : Fin 8192) (n : Fin 3524) :
    val_main_v19 (F := Ideal) x0 x1 x2 x3 x4 (ix3 b t n) = proj x0 x1 x2 x3 x4 b t n := by
  pointwise [val_main_v19, val_main_v18_token]
  rfl

theorem val_main_v40_token (b : Fin 4) (t : Fin 8192) (j : Fin 128) :
    val_main_v40 (F := Ideal) x0 x1 x2 x3 x4 x5 (ix3 b t j) = latentAt x0 x1 x2 x3 x4 x5 b t j := by
  pointwise [val_main_v22, val_main_v28, val_main_cst_3, val_main_v29, val_main_v30, val_main_cst_4, val_main_v31, val_main_v32, val_main_cst_5, val_main_v33, val_main_v34, val_main_v35, val_main_v36, val_main_v37, val_main_v38, val_main_v39, val_main_v40, val_main_v19_token]
  rfl

theorem val_main_v53_token (b : Fin 4) (t : Fin 8192) (j : Fin 64) :
    val_main_v53 (F := Ideal) x0 x1 x2 x3 x4 x6 (ix3 b t j) = indexKeyAt x0 x1 x2 x3 x4 x6 b t j := by
  pointwise [val_main_v24, val_main_v41, val_main_cst_6, val_main_v42, val_main_v43, val_main_cst_7, val_main_v44, val_main_v45, val_main_cst_8, val_main_v46, val_main_v47, val_main_v48, val_main_v49, val_main_v50, val_main_v51, val_main_v52, val_main_v53, val_main_v19_token]
  rfl

theorem val_main_v62_token (b : Fin 4) (s : Fin 4) (t : Fin 8192) (j : Fin 128) :
    val_main_v62 (F := Ideal) x0 x1 x2 x3 x4 (ix4 b s t j) = slabs x0 x1 x2 x3 x4 b s t j := by
  pointwise [val_main_v20, val_main_v61, val_main_v62, val_main_v19_token]
  rfl

theorem val_main_v63_token (b : Fin 4) (t : Fin 8192) (j : Fin 1024) :
    val_main_v63 (F := Ideal) x0 x1 x2 x3 x4 (ix3 b t j) = gateA x0 x1 x2 x3 x4 b t j := by
  pointwise [val_main_v26, val_main_v63, val_main_v19_token]
  rfl

theorem val_main_v64_token (b : Fin 4) (t : Fin 8192) (j : Fin 1024) :
    val_main_v64 (F := Ideal) x0 x1 x2 x3 x4 (ix3 b t j) = gateB x0 x1 x2 x3 x4 b t j := by
  pointwise [val_main_v27, val_main_v64, val_main_v19_token]
  rfl

theorem val_main_v65_token (b : Fin 4) (t : Fin 8192) (j : Fin 128) :
    val_main_v65 (F := Ideal) x0 x1 x2 x3 x4 x5 (ix3 b t j) = latentAt x0 x1 x2 x3 x4 x5 b t j := by
  pointwise [val_main_v65, val_main_v40_token]

theorem val_main_v66_token (b : Fin 4) (t : Fin 8192) (j : Fin 64) :
    val_main_v66 (F := Ideal) x0 x1 x2 x3 x4 x6 (ix3 b t j) = indexKeyAt x0 x1 x2 x3 x4 x6 b t j := by
  pointwise [val_main_v66, val_main_v53_token]

theorem val_main_v68_token (b : Fin 4) (q : Fin 512) (t : Fin 8192) :
    val_main_v68 (F := Ideal) x0 x1 x2 x3 x4 (ix3 b q t) = query x0 x1 x2 x3 x4 b q t := by
  pointwise [val_main_v21, val_main_v67, val_main_v68, val_main_v19_token]
  rfl

theorem val_main_v70_token (b : Fin 4) (q : Fin 256) (t : Fin 8192) :
    val_main_v70 (F := Ideal) x0 x1 x2 x3 x4 (ix3 b q t) = indexQuery x0 x1 x2 x3 x4 b q t := by
  pointwise [val_main_v23, val_main_v69, val_main_v70, val_main_v19_token]
  rfl

theorem val_main_v72_token (b : Fin 4) (n : Fin 32) (a : Fin 136) (l : Fin 256) :
    val_main_v72 (F := Ideal) x0 x1 x2 x3 x4 x5 (ix4 b n a l) = tiles x0 x1 x2 x3 x4 x5 b n a l := by
  pointwise [val_main_cst_9, val_main_v54, val_main_cst_10, val_main_v55, val_main_v56, val_main_v57, val_main_v58, val_main_v71, val_main_v72, val_main_v40_token]
  unfold tiles underTile
  split_ifs <;> first | rfl | omega

theorem val_main_v73_token (b : Fin 4) (a : Fin 8) (t : Fin 8192) :
    val_main_v73 (F := Ideal) x0 x1 x2 x3 x4 (ix3 b a t) = headWeight x0 x1 x2 x3 x4 b a t := by
  pointwise [val_main_cst_11, val_main_v25, val_main_v59, val_main_v60, val_main_v73, val_main_v19_token]
  rfl

end Cert.InprojRefIdeal.Token

end
-- ==== Proof.InprojReads.lean ====
/-
  The blocks of the kernel's nine input windows as entries of its arguments. The two matrices that the calls multiply by are
  column selections of the one weight matrix.
-/
module

public import proofs.«01_k».proof.Proof.Gen.InprojIdeal.Value
public import proofs.«01_k».proof.Proof.InprojBlock
public import proofs.«01_k».proof.Proof.InprojReference

@[expose] public section

set_option maxRecDepth 16384

noncomputable section

namespace Cert.InprojIdeal.Whole

open Cert.InprojIdeal Cert.InprojIdeal.Gen Cert.InprojRow Cert.InprojRefIdeal.Token Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Token `t` of batch element `b` of the arguments. -/
def argRow (c : Dev nD) (b : Fin 4) (t : Fin 8192) : Row :=
  Cert.InprojRefIdeal.Token.row (m ((c : Thread nD τ).loc main_arg0)) (m ((c : Thread nD τ).loc main_arg1)) (m ((c : Thread nD τ).loc main_arg2)) (m ((c : Thread nD τ).loc main_arg3)) b t

/-- Column `n` of the weights. -/
def argCol (c : Dev nD) (n : Fin 3524) : Fin 1024 → EReal := Cert.InprojRefIdeal.Token.col (m ((c : Thread nD τ).loc main_arg4)) n

/-- Where each window's block lies: grid point `(b, n)` has the 512 tokens from `512 n` of batch element `b`. -/
theorem index_facts : ∀ t : Fin grid0.N,
    (win0_0.index t = ![(grid0.coords t 0).val, (grid0.coords t 1).val, 0]
    ∧ win0_1.index t = ![(grid0.coords t 0).val, 0, 0] ∧ win0_2.index t = ![(grid0.coords t 0).val, 0, 0])
    ∧ (win0_3.index t = ![0, 0] ∧ win0_4.index t = ![0, 0] ∧ win0_5.index t = ![0, 0] ∧ win0_6.index t = ![0, 0]
    ∧ win0_7.index t = ![0, 0] ∧ win0_8.index t = ![0, 0])
    ∧ (win0_9.index t = ![(grid0.coords t 0).val, 0, (grid0.coords t 1).val, 0]
    ∧ win0_10.index t = ![(grid0.coords t 0).val, (grid0.coords t 1).val, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0])
    ∧ win0_14.index t = ![(grid0.coords t 0).val, 0, (grid0.coords t 1).val]
    ∧ win0_15.index t = ![(grid0.coords t 0).val, 0, (grid0.coords t 1).val]
    ∧ win0_16.index t = ![(grid0.coords t 0).val, (grid0.coords t 1).val, 0, 0]
    ∧ win0_17.index t = ![(grid0.coords t 0).val, 0, (grid0.coords t 1).val] := by
  decide +kernel

/-! The elements of the blocks as elements of the arguments, window by window. -/

theorem read0 (c : Dev nD) (t : Fin cfg0.N) (r : Fin 512) (b : Fin 4) (n : Fin 8192)
    (hb : b.val = (grid0.coords t 0).val) (hn : n.val = (grid0.coords t 1).val * 512 + r.val) (k : Fin 1024) :
    iblk m c 0 t (ix3 0 r k) = m ((c : Thread nD τ).loc main_arg0) (ix3 b n k) := by
  have e := (index_facts t).1.1
  blk_ext! [iblk, V, e]

theorem read1 (c : Dev nD) (t : Fin cfg0.N) (b : Fin 4) (hb : b.val = (grid0.coords t 0).val) (k : Fin 1024) :
    iblk m c 1 t (ix3 0 0 k) = m ((c : Thread nD τ).loc main_arg2) (ix3 b 0 k) := by
  have e := (index_facts t).1.2.1
  blk_ext! [iblk, V, e]

theorem read2 (c : Dev nD) (t : Fin cfg0.N) (b : Fin 4) (hb : b.val = (grid0.coords t 0).val) (k : Fin 1024) :
    iblk m c 2 t (ix3 0 0 k) = m ((c : Thread nD τ).loc main_arg1) (ix3 b 0 k) := by
  have e := (index_facts t).1.2.2
  blk_ext! [iblk, V, e]

theorem read3 (c : Dev nD) (t : Fin cfg0.N) (k : Fin 1024) :
    iblk m c 3 t (ix2 0 k) = m ((c : Thread nD τ).loc main_arg3) (ix1 k) := by
  have e := (index_facts t).2.1.1
  simp only [iblk, V, hostOps0, hostOps0_1, hostOps0_2, List.flatten_cons, List.flatten_nil, List.append_nil, List.cons_append, List.nil_append]
  blk_ext! [e]

/-- The columns that the tokens multiply, as the host code lays them out. -/
theorem entry6 (c : Dev nD) : V m c main_v6
    = truncf (F := Ideal) .bf16 (concatenate S1024x2752 1
        [⟨S1024x512, extractStridedSlice S1024x512 ![0, 0] (m ((c : Thread nD τ).loc main_arg4)) slices_S1024x3524_S1024x512_0_0⟩,
          ⟨S1024x1024, extractStridedSlice S1024x1024 ![0, 1476] (m ((c : Thread nD τ).loc main_arg4)) slices_S1024x3524_S1024x1024_0_1476⟩,
          ⟨S1024x1024, extractStridedSlice S1024x1024 ![0, 2500] (m ((c : Thread nD τ).loc main_arg4)) slices_S1024x3524_S1024x1024_0_2500⟩,
          ⟨S1024x128, extractStridedSlice S1024x128 ![0, 1024] (m ((c : Thread nD τ).loc main_arg4)) slices_S1024x3524_S1024x128_0_1024⟩,
          ⟨S1024x64, extractStridedSlice S1024x64 ![0, 1408] (m ((c : Thread nD τ).loc main_arg4)) slices_S1024x3524_S1024x64_0_1408⟩]
        concatenates_S1024x512_S1024x1024_S1024x1024_S1024x128_S1024x64_S1024x2752_d1) bitsLt_bf16_f32 := by
  unfold V
  simp only [hostOps0, hostOps0_1, hostOps0_2, List.flatten_cons, List.flatten_nil, List.append_nil, List.cons_append, List.nil_append]
  after_results_simp <;> rfl

/-- The transposed columns, as the host code lays them out. -/
theorem entry14 (c : Dev nD) : V m c main_v14
    = truncf (F := Ideal) .bf16 (transpose S904x1024 [1, 0] (concatenate S1024x904 1
        [⟨S1024x512, extractStridedSlice S1024x512 ![0, 512] (m ((c : Thread nD τ).loc main_arg4)) slices_S1024x3524_S1024x512_0_512⟩,
          ⟨S1024x256, extractStridedSlice S1024x256 ![0, 1152] (m ((c : Thread nD τ).loc main_arg4)) slices_S1024x3524_S1024x256_0_1152⟩,
          ⟨S1024x128, extractStridedSlice S1024x128 ![0, 1024] (m ((c : Thread nD τ).loc main_arg4)) slices_S1024x3524_S1024x128_0_1024⟩,
          ⟨S1024x8, pad S1024x8 ![0, 0] ![0, 4] ![0, 0] (extractStridedSlice S1024x4 ![0, 1472] (m ((c : Thread nD τ).loc main_arg4)) slices_S1024x3524_S1024x4_0_1472)
            (sitofp .f32 (constantI S_ 32 0#32)) pads_S1024x4_S1024x8_000_040 h_S_⟩]
        concatenates_S1024x512_S1024x256_S1024x128_S1024x8_S1024x904_d1) transposes_S1024x904_S904x1024_1_0) bitsLt_bf16_f32 := by
  unfold V
  simp only [hostOps0, hostOps0_1, hostOps0_2, List.flatten_cons, List.flatten_nil, List.append_nil, List.cons_append, List.nil_append]
  after_results_simp <;> rfl

/-- Column `n` of the matrix that the tokens multiply is column `n'` of the weights. -/
theorem col_eq (c : Dev nD) (t : Fin cfg0.N) (n : Fin 2752) (n' : Fin 3524)
    (h : (n.val < 512 → n'.val = n.val) ∧ (512 ≤ n.val → n.val < 2560 → n'.val = n.val + 964)
      ∧ (2560 ≤ n.val → n.val < 2688 → n'.val + 1536 = n.val) ∧ (2688 ≤ n.val → n'.val + 1280 = n.val)) :
    Block.col (iblk m c 4 t) n = argCol m c n' := by
  funext k
  have e := (index_facts t).2.1.2.1
  have hk : (win0_4.blk t).view.emb (ix2 k n) = ix2 k n := by blk_ext [e]
  show V m c main_v6 ((win0_4.blk t).view.emb (ix2 k n)) = m ((c : Thread nD τ).loc main_arg4) (ix2 k n')
  rw [hk, entry6]
  pointwise []
  split_ifs <;> (congr 2; apply Fin.ext; simp only; omega)

/-- Row `n` of the transposed matrix is column `n'` of the weights … -/
theorem colT_eq (c : Dev nD) (t : Fin cfg0.N) (n : Fin 904) (n' : Fin 3524) (hn : n.val < 900)
    (h : (n.val < 512 → n'.val = n.val + 512) ∧ (512 ≤ n.val → n.val < 768 → n'.val = n.val + 640)
      ∧ (768 ≤ n.val → n.val < 896 → n'.val = n.val + 256) ∧ (896 ≤ n.val → n'.val = n.val + 576)) :
    Block.colT (iblk m c 5 t) n = argCol m c n' := by
  funext k
  have e := (index_facts t).2.1.2.2.1
  have hk : (win0_5.blk t).view.emb (ix2 n k) = ix2 n k := by blk_ext [e]
  show V m c main_v14 ((win0_5.blk t).view.emb (ix2 n k)) = m ((c : Thread nD τ).loc main_arg4) (ix2 k n')
  rw [hk, entry14]
  pointwise []
  split_ifs <;> first | omega | (congr 2; apply Fin.ext; simp only; omega)

/-- … and the last four rows are zeros. -/
theorem colT_zero (c : Dev nD) (t : Fin cfg0.N) (n : Fin 904) (hn : 900 ≤ n.val) :
    Block.colT (iblk m c 5 t) n = fun _ => 0 := by
  funext k
  have e := (index_facts t).2.1.2.2.1
  have hk : (win0_5.blk t).view.emb (ix2 n k) = ix2 n k := by blk_ext [e]
  show V m c main_v14 ((win0_5.blk t).view.emb (ix2 n k)) = _
  rw [hk, entry14]
  pointwise []
  rw [dif_neg (by omega), dif_neg (by omega), dif_neg (by omega), dif_neg (by omega)]
  show ((((0#32 : BitVec 32).toInt : ℝ)) : EReal) = 0
  simp

theorem read6 (c : Dev nD) (t : Fin cfg0.N) (k : Fin 128) :
    iblk m c 6 t (ix2 0 k) = m ((c : Thread nD τ).loc main_arg5) (ix1 k) := by
  have e := (index_facts t).2.1.2.2.2.1
  simp only [iblk, V, hostOps0, hostOps0_1, hostOps0_2, List.flatten_cons, List.flatten_nil, List.append_nil, List.cons_append, List.nil_append]
  blk_ext! [e]

theorem read7 (c : Dev nD) (t : Fin cfg0.N) (k : Fin 128) :
    iblk m c 7 t (ix2 k 0) = m ((c : Thread nD τ).loc main_arg5) (ix1 k) := by
  have e := (index_facts t).2.1.2.2.2.2.1
  simp only [iblk, V, hostOps0, hostOps0_1, hostOps0_2, List.flatten_cons, List.flatten_nil, List.append_nil, List.cons_append, List.nil_append]
  blk_ext! [e]

theorem read8 (c : Dev nD) (t : Fin cfg0.N) (k : Fin 64) :
    iblk m c 8 t (ix2 0 k) = m ((c : Thread nD τ).loc main_arg6) (ix1 k) := by
  have e := (index_facts t).2.1.2.2.2.2.2
  simp only [iblk, V, hostOps0, hostOps0_1, hostOps0_2, List.flatten_cons, List.flatten_nil, List.append_nil, List.cons_append, List.nil_append]
  blk_ext! [e]

/-- Row `r` of the blocks at grid point `t` is a row of the arguments. -/
theorem row_eq (c : Dev nD) (t : Fin cfg0.N) (r : Fin 512) (b : Fin 4) (n : Fin 8192)
    (hb : b.val = (grid0.coords t 0).val) (hn : n.val = (grid0.coords t 1).val * 512 + r.val) :
    Block.row (iblk m c 0 t) (iblk m c 1 t) (iblk m c 2 t) (iblk m c 3 t) r = argRow m c b n := by
  unfold Block.row argRow Cert.InprojRefIdeal.Token.row
  rw [Row.mk.injEq]
  exact ⟨funext (read0 m c t r b n hb hn), funext (read2 m c t b hb), funext (read1 m c t b hb), funext (read3 m c t)⟩

end Cert.InprojIdeal.Whole

end
-- ==== Proof.InprojValue.lean ====
/-
  The kernel's nine result arrays as functions of its arguments: the values of InprojReference.lean.
-/
module

public import proofs.«01_k».proof.Proof.Gen.InprojIdeal.Value
public import proofs.«01_k».proof.Proof.InprojReads

@[expose] public section

set_option maxRecDepth 16384

noncomputable section

namespace Cert.InprojIdeal.Whole

open Cert.InprojIdeal Cert.InprojIdeal.Gen Cert.InprojRow Cert.InprojRefIdeal.Token Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! The result arrays. -/

/-- The state space branch's channels, in slabs of 128. -/
def result9 (c : Dev nD) : S4x4x8192x128.Idx → EReal := fun i => slabs (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) (i 3)

theorem arrAt9 (c : Dev nD) : (dats m 0 c).arrAt 9 cfg0.N = result9 m c := by
  refine (dats m 0 c).arrAt_eq_of_covers 9 _ (by decide +kernel) fun t hf y => ?_
  blk_simp
  rw [after0_9]
  unfold outsAt0
  frame_out
  idx_vars y
  obtain rfl : y0 = 0 := Subsingleton.elim _ _
  have e := (index_facts t).2.2.1.1
  have h0 : ((((View.whole main_v19_0).slice (win0_9.rect t)).emb (ix4 0 y1 y2 y3)) 0).val = (grid0.coords t 0).val := by
    blk_simp [e]
    try exact Nat.add_zero _
  have h1 : ((((View.whole main_v19_0).slice (win0_9.rect t)).emb (ix4 0 y1 y2 y3)) 1).val = y1.val := by
    blk_simp [e]
  have h2 : ((((View.whole main_v19_0).slice (win0_9.rect t)).emb (ix4 0 y1 y2 y3)) 2).val = (grid0.coords t 1).val * 512 + y2.val := by
    blk_simp [e]
  have h3 : ((((View.whole main_v19_0).slice (win0_9.rect t)).emb (ix4 0 y1 y2 y3)) 3).val = y3.val := by
    blk_simp [e]
  unfold result9
  generalize ((View.whole main_v19_0).slice (win0_9.rect t)).emb (ix4 0 y1 y2 y3) = i at *
  idx_vars i
  have l1 : y1.val < 4 := y1.isLt
  obtain rfl : y1 = i1 := (Fin.ext h1).symm
  have l3 : y3.val < 128 := y3.isLt
  obtain rfl : y3 = i3 := (Fin.ext h3).symm
  rw [Block.out9_apply, row_eq m c t y2 i0 i2 h0 h2, col_eq m c t _ ⟨y1.val * 128 + y3.val, by omega⟩ (by simp only; omega)]
  rfl

/-- The first gate. -/
def result10 (c : Dev nD) : S4x8192x1024.Idx → EReal := fun i => gateA (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

theorem arrAt10 (c : Dev nD) : (dats m 0 c).arrAt 10 cfg0.N = result10 m c := by
  refine (dats m 0 c).arrAt_eq_of_covers 10 _ (by decide +kernel) fun t hf y => ?_
  blk_simp
  rw [after0_10]
  unfold outsAt0
  frame_out
  idx_vars y
  obtain rfl : y0 = 0 := Subsingleton.elim _ _
  have e := (index_facts t).2.2.1.2.1
  have h0 : ((((View.whole main_v19_1).slice (win0_10.rect t)).emb (ix3 0 y1 y2)) 0).val = (grid0.coords t 0).val := by
    blk_simp [e]
    try exact Nat.add_zero _
  have h1 : ((((View.whole main_v19_1).slice (win0_10.rect t)).emb (ix3 0 y1 y2)) 1).val = (grid0.coords t 1).val * 512 + y1.val := by
    blk_simp [e]
  have h2 : ((((View.whole main_v19_1).slice (win0_10.rect t)).emb (ix3 0 y1 y2)) 2).val = y2.val := by
    blk_simp [e]
  unfold result10
  generalize ((View.whole main_v19_1).slice (win0_10.rect t)).emb (ix3 0 y1 y2) = i at *
  idx_vars i
  have l2 : y2.val < 1024 := y2.isLt
  obtain rfl : y2 = i2 := (Fin.ext h2).symm
  rw [Block.out10_apply, row_eq m c t y1 i0 i1 h0 h1, col_eq m c t _ ⟨1476 + y2.val, by omega⟩ (by simp only; omega)]
  rfl

/-- The second gate. -/
def result11 (c : Dev nD) : S4x8192x1024.Idx → EReal := fun i => gateB (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

theorem arrAt11 (c : Dev nD) : (dats m 0 c).arrAt 11 cfg0.N = result11 m c := by
  refine (dats m 0 c).arrAt_eq_of_covers 11 _ (by decide +kernel) fun t hf y => ?_
  blk_simp
  rw [after0_11]
  unfold outsAt0
  frame_out
  idx_vars y
  obtain rfl : y0 = 0 := Subsingleton.elim _ _
  have e := (index_facts t).2.2.1.2.2.1
  have h0 : ((((View.whole main_v19_2).slice (win0_11.rect t)).emb (ix3 0 y1 y2)) 0).val = (grid0.coords t 0).val := by
    blk_simp [e]
    try exact Nat.add_zero _
  have h1 : ((((View.whole main_v19_2).slice (win0_11.rect t)).emb (ix3 0 y1 y2)) 1).val = (grid0.coords t 1).val * 512 + y1.val := by
    blk_simp [e]
  have h2 : ((((View.whole main_v19_2).slice (win0_11.rect t)).emb (ix3 0 y1 y2)) 2).val = y2.val := by
    blk_simp [e]
  unfold result11
  generalize ((View.whole main_v19_2).slice (win0_11.rect t)).emb (ix3 0 y1 y2) = i at *
  idx_vars i
  have l2 : y2.val < 1024 := y2.isLt
  obtain rfl : y2 = i2 := (Fin.ext h2).symm
  rw [Block.out11_apply, row_eq m c t y1 i0 i1 h0 h1, col_eq m c t _ ⟨2500 + y2.val, by omega⟩ (by simp only; omega)]
  rfl

/-- The normalised latents. -/
def result12 (c : Dev nD) : S4x8192x128.Idx → EReal := fun i => latentAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2)

theorem arrAt12 (c : Dev nD) : (dats m 0 c).arrAt 12 cfg0.N = result12 m c := by
  refine (dats m 0 c).arrAt_eq_of_covers 12 _ (by decide +kernel) fun t hf y => ?_
  blk_simp
  rw [after0_12]
  unfold outsAt0
  frame_out
  idx_vars y
  obtain rfl : y0 = 0 := Subsingleton.elim _ _
  have e := (index_facts t).2.2.1.2.2.2.1
  have h0 : ((((View.whole main_v19_3).slice (win0_12.rect t)).emb (ix3 0 y1 y2)) 0).val = (grid0.coords t 0).val := by
    blk_simp [e]
    try exact Nat.add_zero _
  have h1 : ((((View.whole main_v19_3).slice (win0_12.rect t)).emb (ix3 0 y1 y2)) 1).val = (grid0.coords t 1).val * 512 + y1.val := by
    blk_simp [e]
  have h2 : ((((View.whole main_v19_3).slice (win0_12.rect t)).emb (ix3 0 y1 y2)) 2).val = y2.val := by
    blk_simp [e]
  unfold result12
  generalize ((View.whole main_v19_3).slice (win0_12.rect t)).emb (ix3 0 y1 y2) = i at *
  idx_vars i
  have l2 : y2.val < 128 := y2.isLt
  obtain rfl : y2 = i2 := (Fin.ext h2).symm
  rw [Block.pay13_apply, row_eq m c t y1 i0 i1 h0 h1]
  unfold latentAt
  congr 1
  · funext k
    rw [col_eq m c t _ ⟨1024 + k.val, by omega⟩ (by simp only; omega)]
    rfl
  · funext k
    exact read6 m c t k

/-- The normalised indexer keys. -/
def result13 (c : Dev nD) : S4x8192x64.Idx → EReal := fun i => indexKeyAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (i 0) (i 1) (i 2)

theorem arrAt13 (c : Dev nD) : (dats m 0 c).arrAt 13 cfg0.N = result13 m c := by
  refine (dats m 0 c).arrAt_eq_of_covers 13 _ (by decide +kernel) fun t hf y => ?_
  blk_simp
  rw [after0_13]
  unfold outsAt0
  frame_out
  idx_vars y
  obtain rfl : y0 = 0 := Subsingleton.elim _ _
  have e := (index_facts t).2.2.1.2.2.2.2
  have h0 : ((((View.whole main_v19_4).slice (win0_13.rect t)).emb (ix3 0 y1 y2)) 0).val = (grid0.coords t 0).val := by
    blk_simp [e]
    try exact Nat.add_zero _
  have h1 : ((((View.whole main_v19_4).slice (win0_13.rect t)).emb (ix3 0 y1 y2)) 1).val = (grid0.coords t 1).val * 512 + y1.val := by
    blk_simp [e]
  have h2 : ((((View.whole main_v19_4).slice (win0_13.rect t)).emb (ix3 0 y1 y2)) 2).val = y2.val := by
    blk_simp [e]
  unfold result13
  generalize ((View.whole main_v19_4).slice (win0_13.rect t)).emb (ix3 0 y1 y2) = i at *
  idx_vars i
  have l2 : y2.val < 64 := y2.isLt
  obtain rfl : y2 = i2 := (Fin.ext h2).symm
  rw [Block.pay14_apply, row_eq m c t y1 i0 i1 h0 h1]
  unfold indexKeyAt
  congr 1
  · funext k
    rw [col_eq m c t _ ⟨1408 + k.val, by omega⟩ (by simp only; omega)]
    rfl
  · funext k
    exact read8 m c t k

/-- The queries, transposed. -/
def result14 (c : Dev nD) : S4x512x8192.Idx → EReal := fun i => query (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

theorem arrAt14 (c : Dev nD) : (dats m 0 c).arrAt 14 cfg0.N = result14 m c := by
  refine (dats m 0 c).arrAt_eq_of_covers 14 _ (by decide +kernel) fun t hf y => ?_
  blk_simp
  rw [after0_14]
  unfold outsAt0
  frame_out
  idx_vars y
  obtain rfl : y0 = 0 := Subsingleton.elim _ _
  have e := (index_facts t).2.2.2.1
  have h0 : ((((View.whole main_v19_5).slice (win0_14.rect t)).emb (ix3 0 y1 y2)) 0).val = (grid0.coords t 0).val := by
    blk_simp [e]
    try exact Nat.add_zero _
  have h1 : ((((View.whole main_v19_5).slice (win0_14.rect t)).emb (ix3 0 y1 y2)) 1).val = y1.val := by
    blk_simp [e]
  have h2 : ((((View.whole main_v19_5).slice (win0_14.rect t)).emb (ix3 0 y1 y2)) 2).val = (grid0.coords t 1).val * 512 + y2.val := by
    blk_simp [e]
  unfold result14
  generalize ((View.whole main_v19_5).slice (win0_14.rect t)).emb (ix3 0 y1 y2) = i at *
  idx_vars i
  have l1 : y1.val < 512 := y1.isLt
  obtain rfl : y1 = i1 := (Fin.ext h1).symm
  rw [Block.out14_apply, row_eq m c t y2 i0 i2 h0 h2, colT_eq m c t _ ⟨512 + y1.val, by omega⟩ (by simp only; omega) (by simp only; omega)]
  rfl

/-- The indexer's queries, transposed. -/
def result15 (c : Dev nD) : S4x256x8192.Idx → EReal := fun i => indexQuery (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

theorem arrAt15 (c : Dev nD) : (dats m 0 c).arrAt 15 cfg0.N = result15 m c := by
  refine (dats m 0 c).arrAt_eq_of_covers 15 _ (by decide +kernel) fun t hf y => ?_
  blk_simp
  rw [after0_15]
  unfold outsAt0
  frame_out
  idx_vars y
  obtain rfl : y0 = 0 := Subsingleton.elim _ _
  have e := (index_facts t).2.2.2.2.1
  have h0 : ((((View.whole main_v19_6).slice (win0_15.rect t)).emb (ix3 0 y1 y2)) 0).val = (grid0.coords t 0).val := by
    blk_simp [e]
    try exact Nat.add_zero _
  have h1 : ((((View.whole main_v19_6).slice (win0_15.rect t)).emb (ix3 0 y1 y2)) 1).val = y1.val := by
    blk_simp [e]
  have h2 : ((((View.whole main_v19_6).slice (win0_15.rect t)).emb (ix3 0 y1 y2)) 2).val = (grid0.coords t 1).val * 512 + y2.val := by
    blk_simp [e]
  unfold result15
  generalize ((View.whole main_v19_6).slice (win0_15.rect t)).emb (ix3 0 y1 y2) = i at *
  idx_vars i
  have l1 : y1.val < 256 := y1.isLt
  obtain rfl : y1 = i1 := (Fin.ext h1).symm
  rw [Block.out15_apply, row_eq m c t y2 i0 i2 h0 h2, colT_eq m c t _ ⟨1152 + y1.val, by omega⟩ (by simp only; omega) (by simp only; omega)]
  rfl

/-- The transposed latents in tiles of 256 tokens. -/
def result16 (c : Dev nD) : S4x32x136x256.Idx → EReal := fun i => tiles (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2) (i 3)

theorem arrAt16 (c : Dev nD) : (dats m 0 c).arrAt 16 cfg0.N = result16 m c := by
  refine (dats m 0 c).arrAt_eq_of_covers 16 _ (by decide +kernel) fun t hf y => ?_
  blk_simp
  rw [after0_16]
  unfold outsAt0
  frame_out
  idx_vars y
  obtain rfl : y0 = 0 := Subsingleton.elim _ _
  have e := (index_facts t).2.2.2.2.2.1
  have h0 : ((((View.whole main_v19_7).slice (win0_16.rect t)).emb (ix4 0 y1 y2 y3)) 0).val = (grid0.coords t 0).val := by
    blk_simp [e]
    try exact Nat.add_zero _
  have h1 : ((((View.whole main_v19_7).slice (win0_16.rect t)).emb (ix4 0 y1 y2 y3)) 1).val = (grid0.coords t 1).val * 2 + y1.val := by
    blk_simp [e]
  have h2 : ((((View.whole main_v19_7).slice (win0_16.rect t)).emb (ix4 0 y1 y2 y3)) 2).val = y2.val := by
    blk_simp [e]
  have h3 : ((((View.whole main_v19_7).slice (win0_16.rect t)).emb (ix4 0 y1 y2 y3)) 3).val = y3.val := by
    blk_simp [e]
  unfold result16
  generalize ((View.whole main_v19_7).slice (win0_16.rect t)).emb (ix4 0 y1 y2 y3) = i at *
  idx_vars i
  have l2 : y2.val < 136 := y2.isLt
  have l1 : y1.val < 2 := y1.isLt
  obtain rfl : y2 = i2 := (Fin.ext h2).symm
  have l3 : y3.val < 256 := y3.isLt
  obtain rfl : y3 = i3 := (Fin.ext h3).symm
  rw [Block.out16_apply]
  show Block.tile _ _ _ _ _ _ _ _ = tiles _ _ _ _ _ _ i0 i1 y2 y3
  unfold Block.tile tiles
  by_cases h : y2.val < 128
  · rw [dif_pos h, dif_pos h, row_eq m c t ⟨256 * y1.val + y3.val, by omega⟩ i0 ⟨i1.val * 256 + y3.val, by have l := (show i1.val < 32 from i1.isLt); omega⟩ h0 (by simp only; omega)]
    unfold latentAt
    congr 1
    · funext k
      rw [colT_eq m c t _ ⟨1024 + k.val, by omega⟩ (by simp only; omega) (by simp only; omega)]
      rfl
    · funext k
      exact read7 m c t k
  · rw [dif_neg h, dif_neg h]

/-- The indexer's head weights, transposed. -/
def result17 (c : Dev nD) : S4x8x8192.Idx → EReal := fun i => headWeight (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

theorem arrAt17 (c : Dev nD) : (dats m 0 c).arrAt 17 cfg0.N = result17 m c := by
  refine (dats m 0 c).arrAt_eq_of_covers 17 _ (by decide +kernel) fun t hf y => ?_
  blk_simp
  rw [after0_17]
  unfold outsAt0
  frame_out
  idx_vars y
  obtain rfl : y0 = 0 := Subsingleton.elim _ _
  have e := (index_facts t).2.2.2.2.2.2
  have h0 : ((((View.whole main_v19_8).slice (win0_17.rect t)).emb (ix3 0 y1 y2)) 0).val = (grid0.coords t 0).val := by
    blk_simp [e]
    try exact Nat.add_zero _
  have h1 : ((((View.whole main_v19_8).slice (win0_17.rect t)).emb (ix3 0 y1 y2)) 1).val = y1.val := by
    blk_simp [e]
  have h2 : ((((View.whole main_v19_8).slice (win0_17.rect t)).emb (ix3 0 y1 y2)) 2).val = (grid0.coords t 1).val * 512 + y2.val := by
    blk_simp [e]
  unfold result17
  generalize ((View.whole main_v19_8).slice (win0_17.rect t)).emb (ix3 0 y1 y2) = i at *
  idx_vars i
  have l1 : y1.val < 8 := y1.isLt
  obtain rfl : y1 = i1 := (Fin.ext h1).symm
  rw [Block.out17_apply, row_eq m c t y2 i0 i2 h0 h2]
  show _ = headWeight _ _ _ _ _ i0 y1 i2
  unfold headWeight
  by_cases h : y1.val < 4
  · rw [dif_pos h, colT_eq m c t _ ⟨1472 + y1.val, by omega⟩ (by simp only; omega) (by simp only; omega)]
    rfl
  · rw [dif_neg h, colT_zero m c t _ (by simp only; omega)]
    exact Row.dot_zero _

/-- The run: the nine result buffers end at these arrays, the arguments as launched. -/
theorem run : θ_run defs (onTc (τ := τ) (main (F := Ideal))) ⟨m, fun _ => 0, ρ⟩ fun r => ∀ c : Dev nD,
      r.2.mem ((c : Thread nD τ).loc main_v19_0) = result9 m c
      ∧ r.2.mem ((c : Thread nD τ).loc main_v19_1) = result10 m c
      ∧ r.2.mem ((c : Thread nD τ).loc main_v19_2) = result11 m c
      ∧ r.2.mem ((c : Thread nD τ).loc main_v19_3) = result12 m c
      ∧ r.2.mem ((c : Thread nD τ).loc main_v19_4) = result13 m c
      ∧ r.2.mem ((c : Thread nD τ).loc main_v19_5) = result14 m c
      ∧ r.2.mem ((c : Thread nD τ).loc main_v19_6) = result15 m c
      ∧ r.2.mem ((c : Thread nD τ).loc main_v19_7) = result16 m c
      ∧ r.2.mem ((c : Thread nD τ).loc main_v19_8) = result17 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (arrAt9 m c), (h c).2.1.trans (arrAt10 m c), (h c).2.2.1.trans (arrAt11 m c), (h c).2.2.2.1.trans (arrAt12 m c), (h c).2.2.2.2.1.trans (arrAt13 m c), (h c).2.2.2.2.2.1.trans (arrAt14 m c), (h c).2.2.2.2.2.2.1.trans (arrAt15 m c), (h c).2.2.2.2.2.2.2.1.trans (arrAt16 m c), (h c).2.2.2.2.2.2.2.2.1.trans (arrAt17 m c), (h c).2.2.2.2.2.2.2.2.2⟩) (Value.run_blocks m ρ)

end Cert.InprojIdeal.Whole

end
-- ==== Proof.InprojClaims.lean ====
/-
  The claims about the input projection: the frames of the kernel, of its ideal program and of the reference, and the equality
  of their nine results over the extended reals.
-/
module

public import proofs.«01_k».proof.Defs
public import proofs.«01_k».proof.Proof.Gen.Inproj.Frame
public import proofs.«01_k».proof.Proof.InprojValue

@[expose] public section

set_option maxRecDepth 16384

noncomputable section

namespace Cert.InprojClaims

open Idealize.ShloMosaic Idealize.SL.Sem

theorem frame : Cert.quiescent_Inproj := fun m ρ _ => Cert.Inproj.Gen.frame m ρ

theorem frame_ideal : Cert.quiescent_InprojIdeal := fun m ρ _ => Cert.InprojIdeal.Gen.frame m ρ

/-- The reference is a host program: it declares no semaphore, and its run leaves the arguments as they were. -/
theorem frame_reference : Cert.quiescent_InprojRefIdeal := fun m ρ _ =>
  (θ_run Cert.InprojRefIdeal.defs _ _).mono (fun r h => ⟨fun c => (h c).2.2.2.2.2.2.2.2.2,
      Idealize.ShloMosaic.sem_eq_zero_of_no_sems (by decide) r.2⟩)
    (Cert.InprojRefIdeal.Value.run (F := Ideal) m ρ)

theorem preserves : Cert.preserves_Inproj_InprojIdeal := trivial

section
open Cert.InprojRefIdeal

/-! The reference's results as the functions of InprojReference.lean, on whole arrays. -/

variable (x0 : (⟨S4x8192x1024, .f32⟩ : BufTy).Contents (Elt Ideal)) (x1 : (⟨S4x1x1024, .f32⟩ : BufTy).Contents (Elt Ideal)) (x2 : (⟨S4x1x1024, .f32⟩ : BufTy).Contents (Elt Ideal)) (x3 : (⟨S1024, .f32⟩ : BufTy).Contents (Elt Ideal)) (x4 : (⟨S1024x3524, .f32⟩ : BufTy).Contents (Elt Ideal)) (x5 : (⟨S128, .f32⟩ : BufTy).Contents (Elt Ideal)) (x6 : (⟨S64, .f32⟩ : BufTy).Contents (Elt Ideal))

theorem whole62 : Read.val_main_v62 (F := Ideal) x0 x1 x2 x3 x4 = fun i => Token.slabs x0 x1 x2 x3 x4 (i 0) (i 1) (i 2) (i 3) := by
  funext i
  idx_vars i
  exact Token.val_main_v62_token x0 x1 x2 x3 x4 i0 i1 i2 i3

theorem whole63 : Read.val_main_v63 (F := Ideal) x0 x1 x2 x3 x4 = fun i => Token.gateA x0 x1 x2 x3 x4 (i 0) (i 1) (i 2) := by
  funext i
  idx_vars i
  exact Token.val_main_v63_token x0 x1 x2 x3 x4 i0 i1 i2

theorem whole64 : Read.val_main_v64 (F := Ideal) x0 x1 x2 x3 x4 = fun i => Token.gateB x0 x1 x2 x3 x4 (i 0) (i 1) (i 2) := by
  funext i
  idx_vars i
  exact Token.val_main_v64_token x0 x1 x2 x3 x4 i0 i1 i2

theorem whole65 : Read.val_main_v65 (F := Ideal) x0 x1 x2 x3 x4 x5 = fun i => Token.latentAt x0 x1 x2 x3 x4 x5 (i 0) (i 1) (i 2) := by
  funext i
  idx_vars i
  exact Token.val_main_v65_token x0 x1 x2 x3 x4 x5 i0 i1 i2

theorem whole66 : Read.val_main_v66 (F := Ideal) x0 x1 x2 x3 x4 x6 = fun i => Token.indexKeyAt x0 x1 x2 x3 x4 x6 (i 0) (i 1) (i 2) := by
  funext i
  idx_vars i
  exact Token.val_main_v66_token x0 x1 x2 x3 x4 x6 i0 i1 i2

theorem whole68 : Read.val_main_v68 (F := Ideal) x0 x1 x2 x3 x4 = fun i => Token.query x0 x1 x2 x3 x4 (i 0) (i 1) (i 2) := by
  funext i
  idx_vars i
  exact Token.val_main_v68_token x0 x1 x2 x3 x4 i0 i1 i2

theorem whole70 : Read.val_main_v70 (F := Ideal) x0 x1 x2 x3 x4 = fun i => Token.indexQuery x0 x1 x2 x3 x4 (i 0) (i 1) (i 2) := by
  funext i
  idx_vars i
  exact Token.val_main_v70_token x0 x1 x2 x3 x4 i0 i1 i2

theorem whole72 : Read.val_main_v72 (F := Ideal) x0 x1 x2 x3 x4 x5 = fun i => Token.tiles x0 x1 x2 x3 x4 x5 (i 0) (i 1) (i 2) (i 3) := by
  funext i
  idx_vars i
  exact Token.val_main_v72_token x0 x1 x2 x3 x4 x5 i0 i1 i2 i3

theorem whole73 : Read.val_main_v73 (F := Ideal) x0 x1 x2 x3 x4 = fun i => Token.headWeight x0 x1 x2 x3 x4 (i 0) (i 1) (i 2) := by
  funext i
  idx_vars i
  exact Token.val_main_v73_token x0 x1 x2 x3 x4 i0 i1 i2

end

/-- Both programs' results are the functions of InprojReference.lean at the arguments. -/
theorem algebraic : Cert.algebraic_InprojIdeal_InprojRefIdeal := by
  intro m ρ m' ρ' _ hagree
  refine ⟨fun c => Cert.InprojIdeal.Whole.result9 m c, fun c => Cert.InprojIdeal.Whole.result10 m c, fun c => Cert.InprojIdeal.Whole.result11 m c, fun c => Cert.InprojIdeal.Whole.result12 m c, fun c => Cert.InprojIdeal.Whole.result13 m c, fun c => Cert.InprojIdeal.Whole.result14 m c, fun c => Cert.InprojIdeal.Whole.result15 m c, fun c => Cert.InprojIdeal.Whole.result16 m c, fun c => Cert.InprojIdeal.Whole.result17 m c, Cert.InprojIdeal.Whole.run m ρ, ?_⟩
  refine (θ_run Cert.InprojRefIdeal.defs _ _).mono (fun _ h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2⟩)
    (Cert.InprojRefIdeal.Value.run (F := Ideal) m' ρ')
  all_goals obtain ⟨h0, h1, h2, h3, h4, h5, h6⟩ := hagree c
  · rw [Cert.InprojRefIdeal.Read.val_main_v62_eq, whole62, h0, h1, h2, h3, h4]
    rfl
  · rw [Cert.InprojRefIdeal.Read.val_main_v63_eq, whole63, h0, h1, h2, h3, h4]
    rfl
  · rw [Cert.InprojRefIdeal.Read.val_main_v64_eq, whole64, h0, h1, h2, h3, h4]
    rfl
  · rw [Cert.InprojRefIdeal.Read.val_main_v65_eq, whole65, h0, h1, h2, h3, h4, h5]
    rfl
  · rw [Cert.InprojRefIdeal.Read.val_main_v66_eq, whole66, h0, h1, h2, h3, h4, h6]
    rfl
  · rw [Cert.InprojRefIdeal.Read.val_main_v68_eq, whole68, h0, h1, h2, h3, h4]
    rfl
  · rw [Cert.InprojRefIdeal.Read.val_main_v70_eq, whole70, h0, h1, h2, h3, h4]
    rfl
  · rw [Cert.InprojRefIdeal.Read.val_main_v72_eq, whole72, h0, h1, h2, h3, h4, h5]
    rfl
  · rw [Cert.InprojRefIdeal.Read.val_main_v73_eq, whole73, h0, h1, h2, h3, h4]
    rfl

end Cert.InprojClaims

end
-- ==== Proof.ModulationValue.lean ====
/-
  The modulation: entry `n` of batch element `b` is the gated condition row `b` times column `n` of the weights, plus the bias.
  The reference's six results and the kernel's six results are the six thirds of a row of such entries.
-/
module

public import proofs.«01_k».proof.Proof.Gen.ModulationIdeal.Frame
public import proofs.«01_k».proof.Proof.Gen.ModulationRefIdeal.Read
public import Idealize.ShloMosaic.Lib.KernelVsHost
public import Idealize.ShloMosaic.Lib.ValueLayout
public import Idealize.ShloMosaic.Lib.Pipeline.FrameTail
public import Idealize.ShloMosaic.Lib.Pipeline.Value
public import Idealize.ShloMosaic.Lib.Pipeline.ValueKit
public import Idealize.ShloMosaic.Lib.Pointwise
public import Idealize.ShloMosaic.PureOps.Ideal
public import Idealize.ShloMosaic.PureOps.Ideal.Laws

@[expose] public section

set_option maxRecDepth 16384

noncomputable section

namespace Cert.ModulationEntry

open Idealize.ShloMosaic

/-- One entry: the row `v`, each element times its logistic, against the column `w`, plus `b`. -/
def entry (v w : Fin 1024 → EReal) (b : EReal) : EReal := (∑ k : Fin 1024, v k * Ideal.logistic (v k) * w k) + b

end Cert.ModulationEntry

namespace Cert.ModulationRefIdeal.Token

open Cert.ModulationRefIdeal Cert.ModulationRefIdeal.Gen Cert.ModulationRefIdeal.Read Cert.ModulationEntry Idealize.ShloMosaic Idealize.ShloMosaic.TcCoe Idealize.SL.Sem

variable (x0 : (⟨S4x1024, .f32⟩ : BufTy).Contents (Elt Ideal)) (x1 : (⟨S1024x6144, .f32⟩ : BufTy).Contents (Elt Ideal))
  (x2 : (⟨S6144, .f32⟩ : BufTy).Contents (Elt Ideal))

/-- Entry `n` of batch element `b` of the modulation. -/
def modulation (b : Fin 4) (n : Fin 6144) : EReal := entry (fun k => x0 (ix2 b k)) (fun k => x1 (ix2 k n)) (x2 (ix1 n))

theorem logistic_eq (a : EReal) : Ideal.div 1 (1 + Ideal.exp (-a)) = Ideal.logistic a := rfl

theorem val_main_v0_entry (b : Fin 4) (k : Fin 1024) :
    val_main_v0 (F := Ideal) x0 (ix2 b k) = x0 (ix2 b k) * Ideal.logistic (x0 (ix2 b k)) := by
  pointwise [val_main_call0_v0, val_main_call0_v1, val_main_call0_cst, val_main_call0_v2, val_main_call0_v3, val_main_call0_cst_0, val_main_call0_v4, val_main_call0_v5, val_main_v0, logistic_eq]

theorem val_main_v4_entry (b : Fin 4) (n : Fin 6144) :
    val_main_v4 (F := Ideal) x0 x1 x2 (ix2 b n) = modulation x0 x1 x2 b n := by
  pointwise [val_main_v1, val_main_v2, val_main_v3, val_main_v4, val_main_v0_entry]
  rfl

/-- The piece of a row that starts at entry `o`. -/
def piece (o : ℕ) (ho : o + 1024 ≤ 6144) : S4x1x1024.Idx → EReal :=
  fun i => modulation x0 x1 x2 (i 0) ⟨o + (i 2).val, by have h : (i 2).val < 1024 := (i 2).isLt; omega⟩

theorem val_main_v6_piece : val_main_v6 (F := Ideal) x0 x1 x2 = piece x0 x1 x2 0 (by omega) := by
  funext i
  idx_vars i
  pointwise [val_main_v5, val_main_v6, val_main_v4_entry]
  exact congrArg (modulation x0 x1 x2 i0) (Fin.ext (Nat.zero_add _).symm)

theorem val_main_v7_piece : val_main_v7 (F := Ideal) x0 x1 x2 = piece x0 x1 x2 1024 (by omega) := by
  funext i
  idx_vars i
  pointwise [val_main_v5, val_main_v7, val_main_v4_entry]
  rfl

theorem val_main_v8_piece : val_main_v8 (F := Ideal) x0 x1 x2 = piece x0 x1 x2 2048 (by omega) := by
  funext i
  idx_vars i
  pointwise [val_main_v5, val_main_v8, val_main_v4_entry]
  rfl

theorem val_main_v9_piece : val_main_v9 (F := Ideal) x0 x1 x2 = piece x0 x1 x2 3072 (by omega) := by
  funext i
  idx_vars i
  pointwise [val_main_v5, val_main_v9, val_main_v4_entry]
  rfl

theorem val_main_v10_piece : val_main_v10 (F := Ideal) x0 x1 x2 = piece x0 x1 x2 4096 (by omega) := by
  funext i
  idx_vars i
  pointwise [val_main_v5, val_main_v10, val_main_v4_entry]
  rfl

theorem val_main_v11_piece : val_main_v11 (F := Ideal) x0 x1 x2 = piece x0 x1 x2 5120 (by omega) := by
  funext i
  idx_vars i
  pointwise [val_main_v5, val_main_v11, val_main_v4_entry]
  rfl

end Cert.ModulationRefIdeal.Token

namespace Cert.ModulationIdeal.Whole

open Cert.ModulationIdeal Cert.ModulationIdeal.Gen Cert.ModulationEntry Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's block. -/
theorem pay1_apply (x0 : Vec Ideal S8x1024 .f32) (x1 : Vec Ideal S1024x1024 .f32) (x2 : Vec Ideal S1x1024 .f32) (b : Fin 8) (n : Fin 1024) :
    k0_pay1 x0 x1 x2 (ix2 b n) = entry (fun k => x0 (ix2 b k)) (fun k => x1 (ix2 k n)) (x2 (ix2 0 n)) := by
  unfold k0_pay1
  pointwise []
  rfl

theorem index_facts : ∀ t : Fin grid0.N,
    win0_0.index t = ![0, 0] ∧ win0_1.index t = ![0, (grid0.coords t 0).val] ∧ win0_2.index t = ![0, (grid0.coords t 0).val]
    ∧ win0_3.index t = ![0, (grid0.coords t 0).val] := by
  decide +kernel

theorem read0 (c : Dev nD) (t : Fin cfg0.N) (b : Fin 8) (k : Fin 1024) :
    iblk m c 0 t (ix2 b k) = V m c main_v0 (ix2 b k) := by
  have e := (index_facts t).1
  have h : (win0_0.blk t).view.emb (ix2 b k) = ix2 b k := by blk_ext [e]
  show V m c main_v0 ((win0_0.blk t).view.emb (ix2 b k)) = _
  rw [h]

theorem read1 (c : Dev nD) (t : Fin cfg0.N) (k n : Fin 1024) (n' : Fin 6144) (hn : n'.val = (grid0.coords t 0).val * 1024 + n.val) :
    iblk m c 1 t (ix2 k n) = m ((c : Thread nD τ).loc main_arg1) (ix2 k n') := by
  have e := (index_facts t).2.1
  have h : (win0_1.blk t).view.emb (ix2 k n) = ix2 k n' := by blk_ext [e]
  show V m c main_arg1 ((win0_1.blk t).view.emb (ix2 k n)) = _
  rw [h, V_main_arg1]

/-- The bias as the launch finds it: a row. -/
theorem entry_v1 (c : Dev nD) (n : Fin 6144) : V m c main_v1 (ix2 0 n) = m ((c : Thread nD τ).loc main_arg2) (ix1 n) := by
  have h : V m c main_v1 = shapeCast _ (m ((c : Thread nD τ).loc main_arg2)) shapeCasts_S6144_S1x6144 := by
    unfold V V0
    simp only [hostOps0, hostOps0_1, hostOps0_2, List.flatten_cons, List.flatten_nil, List.append_nil, List.cons_append, List.nil_append]
    after_results_simp <;> rfl
  rw [h]
  exact Idealize.ShloMosaic.ValueIdx.shapeCast_a_1a_apply _ _ 0 n

theorem read2 (c : Dev nD) (t : Fin cfg0.N) (n : Fin 1024) (n' : Fin 6144) (hn : n'.val = (grid0.coords t 0).val * 1024 + n.val) :
    iblk m c 2 t (ix2 0 n) = m ((c : Thread nD τ).loc main_arg2) (ix1 n') := by
  have e := (index_facts t).2.2.1
  have h : (win0_2.blk t).view.emb (ix2 0 n) = ix2 0 n' := by blk_ext [e]
  show V m c main_v1 ((win0_2.blk t).view.emb (ix2 0 n)) = _
  rw [h, entry_v1]

/-- The padded condition rows: the first four are the condition's. -/
theorem entry_v0 (c : Dev nD) (b : Fin 4) (b' : Fin 8) (hb : b'.val = b.val) (k : Fin 1024) :
    V m c main_v0 (ix2 b' k) = m ((c : Thread nD τ).loc main_arg0) (ix2 b k) := by
  have h : V m c main_v0 = pad S8x1024 ![0, 0] ![4, 0] ![0, 0] (m ((c : Thread nD τ).loc main_arg0))
      (sitofp (F := Ideal) .f32 (constantI S_ 32 0#32)) pads_S4x1024_S8x1024_040_000 h_S_ := by
    unfold V V0
    simp only [hostOps0, hostOps0_1, hostOps0_2, List.flatten_cons, List.flatten_nil, List.append_nil, List.cons_append, List.nil_append]
    after_results_simp <;> rfl
  rw [h]
  refine pad_apply_of_inside _ _ _ _ _ pads_S4x1024_S8x1024_040_000 h_S_ _ (ix2 b k) fun a => ?_
  fin_cases a
  · show b'.val = 0 + b.val * 1
    omega
  · show k.val = 0 + k.val * 1
    omega

/-- The call's result array: eight rows, the last four of padding. -/
def rows (c : Dev nD) : S8x6144.Idx → EReal := fun i =>
  entry (fun k => V m c main_v0 (ix2 (i 0) k)) (fun k => m ((c : Thread nD τ).loc main_arg1) (ix2 k (i 1)))
    (m ((c : Thread nD τ).loc main_arg2) (ix1 (i 1)))

theorem arrAt3 (c : Dev nD) : (dats m 0 c).arrAt 3 cfg0.N = rows m c := by
  refine (dats m 0 c).arrAt_eq_of_covers 3 _ (by decide +kernel) fun t hf y => ?_
  blk_simp
  rw [after0_3]
  unfold out0_3
  frame_out
  idx_vars y
  have e := (index_facts t).2.2.2
  have h0 : ((((View.whole main_v2).slice (win0_3.rect t)).emb (ix2 y0 y1)) 0).val = y0.val := by
    blk_simp [e]
  have h1 : ((((View.whole main_v2).slice (win0_3.rect t)).emb (ix2 y0 y1)) 1).val = (grid0.coords t 0).val * 1024 + y1.val := by
    blk_simp [e]
  unfold rows
  generalize ((View.whole main_v2).slice (win0_3.rect t)).emb (ix2 y0 y1) = i at *
  idx_vars i
  obtain rfl : y0 = i0 := (Fin.ext h0).symm
  rw [pay1_apply, read2 m c t y1 i1 h1]
  simp only [read0 m c t, read1 m c t _ y1 i1 h1]

/-- What the six vectors are cut from. -/
def result (c : Dev nD) (o : ℕ) (ho : o + 1024 ≤ 6144) : S4x1x1024.Idx → EReal :=
  Cert.ModulationRefIdeal.Token.piece (m ((c : Thread nD τ).loc main_arg0)) (m ((c : Thread nD τ).loc main_arg1)) (m ((c : Thread nD τ).loc main_arg2)) o ho

theorem rows_eq (c : Dev nD) (b : Fin 4) (b' : Fin 8) (hb : b'.val = b.val) (n : Fin 6144) :
    rows m c (ix2 b' n) = Cert.ModulationRefIdeal.Token.modulation (m ((c : Thread nD τ).loc main_arg0)) (m ((c : Thread nD τ).loc main_arg1)) (m ((c : Thread nD τ).loc main_arg2)) b n := by
  show entry (fun k => V m c main_v0 (ix2 b' k)) _ _ = _
  simp only [entry_v0 m c b b' hb]
  rfl

theorem tail0 (c : Dev nD) : Pipeline.afterTail₀ cfgs (dats m) 0 (V0 m) [hostOps1] c main_v10 = result m c 0 (by omega) := by
  have h : Pipeline.afterTail₀ cfgs (dats m) 0 (V0 m) [hostOps1] c main_v10
      = shapeCast _ (extractStridedSlice S4x1024 ![0, 0] (extractStridedSlice S4x6144 ![0, 0] ((dats m 0 c).arrAt 3 cfg0.N) slices_S8x6144_S4x6144_0_0) slices_S4x6144_S4x1024_0_0) shapeCasts_S4x1024_S4x1x1024 := by
    rw [← Pipeline.withArrays_arr spec0 launch0.win.arr_inj c (V0 m c) (fun w => (dats m 0 c).arrAt w cfg0.N) 3]
    unfold Pipeline.afterTail₀
    simp only [hostOps1, List.flatten_cons, List.flatten_nil, List.append_nil, List.cons_append, List.nil_append]
    after_results_simp <;> rfl
  rw [h, arrAt3]
  funext i
  idx_vars i
  pointwise []
  refine (rows_eq m c i0 _ rfl _).trans ?_
  exact congrArg (Cert.ModulationRefIdeal.Token.modulation _ _ _ i0) (Fin.ext (Nat.zero_add _).symm)

theorem tail1 (c : Dev nD) : Pipeline.afterTail₀ cfgs (dats m) 0 (V0 m) [hostOps1] c main_v11 = result m c 1024 (by omega) := by
  have h : Pipeline.afterTail₀ cfgs (dats m) 0 (V0 m) [hostOps1] c main_v11
      = shapeCast _ (extractStridedSlice S4x1024 ![0, 1024] (extractStridedSlice S4x6144 ![0, 0] ((dats m 0 c).arrAt 3 cfg0.N) slices_S8x6144_S4x6144_0_0) slices_S4x6144_S4x1024_0_1024) shapeCasts_S4x1024_S4x1x1024 := by
    rw [← Pipeline.withArrays_arr spec0 launch0.win.arr_inj c (V0 m c) (fun w => (dats m 0 c).arrAt w cfg0.N) 3]
    unfold Pipeline.afterTail₀
    simp only [hostOps1, List.flatten_cons, List.flatten_nil, List.append_nil, List.cons_append, List.nil_append]
    after_results_simp <;> rfl
  rw [h, arrAt3]
  funext i
  idx_vars i
  pointwise []
  exact rows_eq m c i0 _ rfl _

theorem tail2 (c : Dev nD) : Pipeline.afterTail₀ cfgs (dats m) 0 (V0 m) [hostOps1] c main_v12 = result m c 2048 (by omega) := by
  have h : Pipeline.afterTail₀ cfgs (dats m) 0 (V0 m) [hostOps1] c main_v12
      = shapeCast _ (extractStridedSlice S4x1024 ![0, 2048] (extractStridedSlice S4x6144 ![0, 0] ((dats m 0 c).arrAt 3 cfg0.N) slices_S8x6144_S4x6144_0_0) slices_S4x6144_S4x1024_0_2048) shapeCasts_S4x1024_S4x1x1024 := by
    rw [← Pipeline.withArrays_arr spec0 launch0.win.arr_inj c (V0 m c) (fun w => (dats m 0 c).arrAt w cfg0.N) 3]
    unfold Pipeline.afterTail₀
    simp only [hostOps1, List.flatten_cons, List.flatten_nil, List.append_nil, List.cons_append, List.nil_append]
    after_results_simp <;> rfl
  rw [h, arrAt3]
  funext i
  idx_vars i
  pointwise []
  exact rows_eq m c i0 _ rfl _

theorem tail3 (c : Dev nD) : Pipeline.afterTail₀ cfgs (dats m) 0 (V0 m) [hostOps1] c main_v13 = result m c 3072 (by omega) := by
  have h : Pipeline.afterTail₀ cfgs (dats m) 0 (V0 m) [hostOps1] c main_v13
      = shapeCast _ (extractStridedSlice S4x1024 ![0, 3072] (extractStridedSlice S4x6144 ![0, 0] ((dats m 0 c).arrAt 3 cfg0.N) slices_S8x6144_S4x6144_0_0) slices_S4x6144_S4x1024_0_3072) shapeCasts_S4x1024_S4x1x1024 := by
    rw [← Pipeline.withArrays_arr spec0 launch0.win.arr_inj c (V0 m c) (fun w => (dats m 0 c).arrAt w cfg0.N) 3]
    unfold Pipeline.afterTail₀
    simp only [hostOps1, List.flatten_cons, List.flatten_nil, List.append_nil, List.cons_append, List.nil_append]
    after_results_simp <;> rfl
  rw [h, arrAt3]
  funext i
  idx_vars i
  pointwise []
  exact rows_eq m c i0 _ rfl _

theorem tail4 (c : Dev nD) : Pipeline.afterTail₀ cfgs (dats m) 0 (V0 m) [hostOps1] c main_v14 = result m c 4096 (by omega) := by
  have h : Pipeline.afterTail₀ cfgs (dats m) 0 (V0 m) [hostOps1] c main_v14
      = shapeCast _ (extractStridedSlice S4x1024 ![0, 4096] (extractStridedSlice S4x6144 ![0, 0] ((dats m 0 c).arrAt 3 cfg0.N) slices_S8x6144_S4x6144_0_0) slices_S4x6144_S4x1024_0_4096) shapeCasts_S4x1024_S4x1x1024 := by
    rw [← Pipeline.withArrays_arr spec0 launch0.win.arr_inj c (V0 m c) (fun w => (dats m 0 c).arrAt w cfg0.N) 3]
    unfold Pipeline.afterTail₀
    simp only [hostOps1, List.flatten_cons, List.flatten_nil, List.append_nil, List.cons_append, List.nil_append]
    after_results_simp <;> rfl
  rw [h, arrAt3]
  funext i
  idx_vars i
  pointwise []
  exact rows_eq m c i0 _ rfl _

theorem tail5 (c : Dev nD) : Pipeline.afterTail₀ cfgs (dats m) 0 (V0 m) [hostOps1] c main_v15 = result m c 5120 (by omega) := by
  have h : Pipeline.afterTail₀ cfgs (dats m) 0 (V0 m) [hostOps1] c main_v15
      = shapeCast _ (extractStridedSlice S4x1024 ![0, 5120] (extractStridedSlice S4x6144 ![0, 0] ((dats m 0 c).arrAt 3 cfg0.N) slices_S8x6144_S4x6144_0_0) slices_S4x6144_S4x1024_0_5120) shapeCasts_S4x1024_S4x1x1024 := by
    rw [← Pipeline.withArrays_arr spec0 launch0.win.arr_inj c (V0 m c) (fun w => (dats m 0 c).arrAt w cfg0.N) 3]
    unfold Pipeline.afterTail₀
    simp only [hostOps1, List.flatten_cons, List.flatten_nil, List.append_nil, List.cons_append, List.nil_append]
    after_results_simp <;> rfl
  rw [h, arrAt3]
  funext i
  idx_vars i
  pointwise []
  exact rows_eq m c i0 _ rfl _

/-- The run: the six result buffers end at the six pieces, the arguments as launched. -/
theorem run : θ_run defs (onTc (τ := τ) (main (F := Ideal))) ⟨m, fun _ => 0, ρ⟩ fun r => ∀ c : Dev nD,
      r.2.mem ((c : Thread nD τ).loc main_v10) = result m c 0 (by omega)
      ∧ r.2.mem ((c : Thread nD τ).loc main_v11) = result m c 1024 (by omega)
      ∧ r.2.mem ((c : Thread nD τ).loc main_v12) = result m c 2048 (by omega)
      ∧ r.2.mem ((c : Thread nD τ).loc main_v13) = result m c 3072 (by omega)
      ∧ r.2.mem ((c : Thread nD τ).loc main_v14) = result m c 4096 (by omega)
      ∧ r.2.mem ((c : Thread nD τ).loc main_v15) = result m c 5120 (by omega)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).2 main_v10 (Pipeline.mem_restRefs_of main_v10 (by decide) (by decide))).trans (tail0 m c),
      ((h.1 c).2 main_v11 (Pipeline.mem_restRefs_of main_v11 (by decide) (by decide))).trans (tail1 m c),
      ((h.1 c).2 main_v12 (Pipeline.mem_restRefs_of main_v12 (by decide) (by decide))).trans (tail2 m c),
      ((h.1 c).2 main_v13 (Pipeline.mem_restRefs_of main_v13 (by decide) (by decide))).trans (tail3 m c),
      ((h.1 c).2 main_v14 (Pipeline.mem_restRefs_of main_v14 (by decide) (by decide))).trans (tail4 m c),
      ((h.1 c).2 main_v15 (Pipeline.mem_restRefs_of main_v15 (by decide) (by decide))).trans (tail5 m c),
      h.2 c⟩)
    (θ_run_and (run_main m ρ) (unchanged m ρ))

end Cert.ModulationIdeal.Whole

end
-- ==== Proof.ModulationClaims.lean ====
/-
  The claims about the modulation: the frames of the kernel, of its ideal program and of the reference, and the equality of
  their six results over the extended reals.
-/
module

public import proofs.«01_k».proof.Defs
public import proofs.«01_k».proof.Proof.Gen.Modulation.Frame
public import proofs.«01_k».proof.Proof.ModulationValue

@[expose] public section

set_option maxRecDepth 16384

noncomputable section

namespace Cert.ModulationClaims

open Idealize.ShloMosaic Idealize.SL.Sem

theorem frame : Cert.quiescent_Modulation := fun m ρ _ => Cert.Modulation.Gen.frame m ρ

theorem frame_ideal : Cert.quiescent_ModulationIdeal := fun m ρ _ => Cert.ModulationIdeal.Gen.frame m ρ

/-- The reference is a host program: it declares no semaphore, and its run leaves the arguments as they were. -/
theorem frame_reference : Cert.quiescent_ModulationRefIdeal := fun m ρ _ =>
  (θ_run Cert.ModulationRefIdeal.defs _ _).mono (fun r h => ⟨fun c => (h c).2.2.2.2.2.2,
      Idealize.ShloMosaic.sem_eq_zero_of_no_sems (by decide) r.2⟩)
    (Cert.ModulationRefIdeal.Value.run (F := Ideal) m ρ)

theorem preserves : Cert.preserves_Modulation_ModulationIdeal := trivial

/-- Both programs' results are the six pieces of the same rows. -/
theorem algebraic : Cert.algebraic_ModulationIdeal_ModulationRefIdeal := by
  intro m ρ m' ρ' _ hagree
  refine ⟨fun c => Cert.ModulationIdeal.Whole.result m c 0 (by omega), fun c => Cert.ModulationIdeal.Whole.result m c 1024 (by omega), fun c => Cert.ModulationIdeal.Whole.result m c 2048 (by omega), fun c => Cert.ModulationIdeal.Whole.result m c 3072 (by omega), fun c => Cert.ModulationIdeal.Whole.result m c 4096 (by omega), fun c => Cert.ModulationIdeal.Whole.result m c 5120 (by omega), Cert.ModulationIdeal.Whole.run m ρ, ?_⟩
  refine (θ_run Cert.ModulationRefIdeal.defs _ _).mono (fun _ h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2⟩)
    (Cert.ModulationRefIdeal.Value.run (F := Ideal) m' ρ')
  all_goals obtain ⟨h0, h1, h2⟩ := hagree c
  · rw [Cert.ModulationRefIdeal.Read.val_main_v6_eq, Cert.ModulationRefIdeal.Token.val_main_v6_piece, h0, h1, h2]
    rfl
  · rw [Cert.ModulationRefIdeal.Read.val_main_v7_eq, Cert.ModulationRefIdeal.Token.val_main_v7_piece, h0, h1, h2]
    rfl
  · rw [Cert.ModulationRefIdeal.Read.val_main_v8_eq, Cert.ModulationRefIdeal.Token.val_main_v8_piece, h0, h1, h2]
    rfl
  · rw [Cert.ModulationRefIdeal.Read.val_main_v9_eq, Cert.ModulationRefIdeal.Token.val_main_v9_piece, h0, h1, h2]
    rfl
  · rw [Cert.ModulationRefIdeal.Read.val_main_v10_eq, Cert.ModulationRefIdeal.Token.val_main_v10_piece, h0, h1, h2]
    rfl
  · rw [Cert.ModulationRefIdeal.Read.val_main_v11_eq, Cert.ModulationRefIdeal.Token.val_main_v11_piece, h0, h1, h2]
    rfl

end Cert.ModulationClaims

end
-- ==== Proof.SsmIdealBody.lean ====
/-
  The same of the state space recurrence's ideal program: its body, run once: from its six input blocks and the output's and
  the scratch buffers at anything it runs to its return, the inputs as they were; and the frame.
-/
module

public import proofs.«01_k».proof.Proof.Gen.SsmIdeal.Frame
public import proofs.«01_k».proof.Proof.Gen.SsmIdeal.Skeleton
public import proofs.«01_k».proof.Proof.Gen.SsmIdeal.Loops
public import Idealize.ShloMosaic.Lib.Pipeline.Frame
public import Idealize.ShloMosaic.Lib.Tactic

@[expose] public section

set_option maxRecDepth 16384

noncomputable section

namespace Cert.SsmIdeal.Body

open Cert.SsmIdeal Cert.SsmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
local notation "𝕄" => MT nD τ sig Unit (Elt F) ℕ (UR sig nD τ) ℕ

set_option maxHeartbeats 20000000 in
theorem kernelRun (c : Dev nD) (i : grid0.Coords) (arg2 : Memref sig .tc .vmem S1x1x8192x128 .f32) (harg2 : arg2.IsWhole) (arg3 : Memref sig .tc .vmem S1x8x256x256 .bf16) (harg3 : arg3.IsWhole) (arg4 : Memref sig .tc .vmem S1x8x128x256 .bf16) (harg4 : arg4.IsWhole) (arg5 : Memref sig .tc .vmem S1x8x256x128 .bf16) (harg5 : arg5.IsWhole) (arg6 : Memref sig .tc .vmem S1x2x512 .f32) (harg6 : arg6.IsWhole) (arg7 : Memref sig .tc .vmem S1x8x256x1 .f32) (harg7 : arg7.IsWhole) (arg8 : Memref sig .tc .vmem S1x1x8192x128 .f32) (harg8 : arg8.IsWhole) (arg9 : Memref sig .tc .vmem S8x256x512 .bf16) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S8x256x512 .f32) (harg14 : arg14.IsWhole)
    (x2 : S1x1x8192x128.Idx → Elt F .f32) (x3 : S1x8x256x256.Idx → Elt F .bf16) (x4 : S1x8x128x256.Idx → Elt F .bf16) (x5 : S1x8x256x128.Idx → Elt F .bf16) (x6 : S1x2x512.Idx → Elt F .f32) (x7 : S1x8x256x1.Idx → Elt F .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0_ssm i arg2 harg2 arg3 harg3 arg4 harg4 arg5 harg5 arg6 harg6 arg7 harg7 arg8 harg8 arg9 harg9 arg10 harg10 arg11 harg11 arg12 harg12 arg13 harg13 arg14 harg14) K := by
  simp only [cc0_ssm_eq_skeleton]; unfold cc0_ssm_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec
  sl_step
  iapply Hk
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists f6; isplitr; swap; · iexact H6
    ipureintro; exact e6
  isplitl [H7]
  · iexists f7; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

/-! ## The proof data: what the body leaves in the output's staging buffer is left unnamed -/

variable [∀ e, Nonempty (Elt F e)]
variable (m : (ℓ : Loc nD τ sig) → Buf (Elt F) ℓ) (ρ : Dev nD → PrngReg)

/-- The windows whose contents after the body are not stated: the output's. -/
def forgets0 (w : Fin 7) : Bool := match w with
  | ⟨0, _⟩ => false
  | ⟨1, _⟩ => false
  | ⟨2, _⟩ => false
  | ⟨3, _⟩ => false
  | ⟨4, _⟩ => false
  | ⟨5, _⟩ => false
  | ⟨_ + 6, _⟩ => true

/-- The arrays as the call finds them; each input's block left in place; the scratch buffers and the generator register
    as the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant, buffer by buffer. -/
theorem PhiA0_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (∃ d, owns (c : Thread nD τ) (Memref.whole cc0_scratch3) fullShare d)
        ∗ (∃ d, owns (c : Thread nD τ) (Memref.whole cc0_scratch4) fullShare d)
        ∗ (∃ d, owns (c : Thread nD τ) (Memref.whole cc0_scratch5) fullShare d)) ∗ (∃ r, prngReg c r)) := by
  unfold Pipeline.ΦA; rw [scopedRest0_eq]; simp only [owns_whole]; try rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

set_option maxHeartbeats 1600000 in
/-- The inputs' memrefs hold their blocks, so the run applies; the scratch buffers come out of the invariant and go back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, H6⟩
  iapply (kernelRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at the point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch's implicit arguments are found by unifying its conclusion with this one, which takes unfolding plain definitions
set_option backward.isDefEq.respectTransparency.types false in
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨
      (Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.SsmIdeal.Body

end
-- ==== Proof.SsmClaims.lean ====
/-
  The claims about the state space recurrence: the frames of the program as compiled and of its ideal program.
-/
module

public import proofs.«01_k».proof.Defs
public import proofs.«01_k».proof.Proof.SsmBody
public import proofs.«01_k».proof.Proof.SsmIdealBody

@[expose] public section

noncomputable section

namespace Cert.SsmClaims

open Idealize.ShloMosaic

theorem frame : Cert.quiescent_Ssm := fun m ρ _ => Cert.Ssm.Body.frame m ρ

theorem frame_ideal : Cert.quiescent_SsmIdeal := fun m ρ _ => Cert.SsmIdeal.Body.frame m ρ

theorem preserves : Cert.preserves_Ssm_SsmIdeal := trivial

end Cert.SsmClaims

end
-- ==== Proof.PrepEntry.lean ====
/-
  The discretised state space parameters, one entry at a time. For a state with rate `a + b i` and step `s` (the exponential of
  the stored step), `λ^k = exp (a s k) (cos (b s k) + i sin (b s k))`; the input column is scaled by `(λ - 1) / (a + b i)`.
-/
module

public import Idealize.ShloMosaic.Lib.ValueLayout
public import Idealize.ShloMosaic.PureOps.Ideal
public import Idealize.ShloMosaic.PureOps.Ideal.Laws

@[expose] public section

noncomputable section

namespace Cert.PrepEntry

open Idealize.ShloMosaic

/-- Real part of `λ^k`, where `u + v i` is the rate times the step. -/
def powRe (u v k : EReal) : EReal := Ideal.exp (u * k) * Ideal.cos (v * k)

/-- Imaginary part of `λ^k`. -/
def powIm (u v k : EReal) : EReal := Ideal.exp (u * k) * Ideal.sin (v * k)

/-- Real part of `λ` itself. -/
def oneRe (u v : EReal) : EReal := Ideal.exp u * Ideal.cos v

/-- Imaginary part of `λ` itself. -/
def oneIm (u v : EReal) : EReal := Ideal.exp u * Ideal.sin v

/-- Real part of `(λ - 1) / (a + b i)`, where `p + q i` is `λ`. -/
def coefRe (a b p q : EReal) : EReal := Ideal.div ((p - 1) * a + q * b) (a * a + b * b)

/-- Imaginary part of `(λ - 1) / (a + b i)`. -/
def coefIm (a b p q : EReal) : EReal := Ideal.div (q * a - (p - 1) * b) (a * a + b * b)

/-- Real part of the product of `p + q i` and `x + y i`. -/
def mulRe (p q x y : EReal) : EReal := p * x - q * y

/-- Imaginary part of the product of `p + q i` and `x + y i`, first term first. -/
def mulIm (p q x y : EReal) : EReal := p * y + q * x

/-- Real part of the scaled input: `(λ - 1) / (a + b i)` times `x + y i`, for the rate `a + b i` and the step `exp l`. -/
def inRe (a b l x y : EReal) : EReal :=
  mulRe (coefRe a b (oneRe (a * Ideal.exp l) (b * Ideal.exp l)) (oneIm (a * Ideal.exp l) (b * Ideal.exp l)))
    (coefIm a b (oneRe (a * Ideal.exp l) (b * Ideal.exp l)) (oneIm (a * Ideal.exp l) (b * Ideal.exp l))) x y

/-- Imaginary part of the scaled input. -/
def inIm (a b l x y : EReal) : EReal :=
  mulIm (coefRe a b (oneRe (a * Ideal.exp l) (b * Ideal.exp l)) (oneIm (a * Ideal.exp l) (b * Ideal.exp l)))
    (coefIm a b (oneRe (a * Ideal.exp l) (b * Ideal.exp l)) (oneIm (a * Ideal.exp l) (b * Ideal.exp l))) x y

/-- Real part of `λ^k` times the scaled input. -/
def decRe (a b l k x y : EReal) : EReal :=
  mulRe (powRe (a * Ideal.exp l) (b * Ideal.exp l) k) (powIm (a * Ideal.exp l) (b * Ideal.exp l) k) (inRe a b l x y) (inIm a b l x y)

/-- Imaginary part of `λ^k` times the scaled input. -/
def decIm (a b l k x y : EReal) : EReal :=
  mulIm (powRe (a * Ideal.exp l) (b * Ideal.exp l) k) (powIm (a * Ideal.exp l) (b * Ideal.exp l) k) (inRe a b l x y) (inIm a b l x y)

/-- Real part of `λ^(k+1)` times the output coefficient `x + y i`. -/
def readRe (a b l k x y : EReal) : EReal :=
  mulRe (powRe (a * Ideal.exp l) (b * Ideal.exp l) (k + 1)) (powIm (a * Ideal.exp l) (b * Ideal.exp l) (k + 1)) x y

/-- The imaginary part of the same, with its sign changed. -/
def readIm (a b l k x y : EReal) : EReal :=
  -mulIm (powRe (a * Ideal.exp l) (b * Ideal.exp l) (k + 1)) (powIm (a * Ideal.exp l) (b * Ideal.exp l) (k + 1)) x y

/-- The lag `n` as a number. -/
def lag (n : ℕ) : EReal := FloatOps.sitofp (F := Ideal) FTy.f32 (BitVec.ofNat 32 n)

/-- The length of a chunk as a number. -/
def chunk : EReal := Ideal.ofBits .f32 0x41800000#32

end Cert.PrepEntry

end
-- ==== Proof.PrepBlock.lean ====
/-
  One block of the preparation: what the body writes for each of its eight groups, entry by entry.
-/
module

public import proofs.«01_k».proof.Proof.Gen.PrepIdeal.Frame
public import proofs.«01_k».proof.Proof.PrepEntry
public import Idealize.ShloMosaic.Lib.KernelVsHost
public import Idealize.ShloMosaic.Lib.Pipeline.FrameTail
public import Idealize.ShloMosaic.Lib.Pipeline.Value
public import Idealize.ShloMosaic.Lib.Pipeline.ValueKit
public import Idealize.ShloMosaic.Lib.Pointwise

@[expose] public section

set_option maxRecDepth 16384

noncomputable section

namespace Cert.PrepIdeal.Block

open Cert.PrepIdeal Cert.PrepIdeal.Gen Cert.PrepEntry Idealize.ShloMosaic Idealize.ShloMosaic.TcCoe Idealize.SL.Sem

variable (ar ai : Vec Ideal S1x64x1 .f32) (l : Vec Ideal S1x1x1 .f32) (br bi cr ci : Vec Ideal S1x64x256 .f32)
  (er ei : Vec Ideal S1x16x64 .f32)

/-! One group. -/

theorem pay8_apply (p : Fin 64) : k0_pay8 ar l (ix2 p 0) = ar (ix3 0 p 0) * Ideal.exp (l (ix3 0 0 0)) := by
  pointwise [k0_pay8, k0_pay7, k0_pay5]

theorem pay9_apply (p : Fin 64) : k0_pay9 ai l (ix2 p 0) = ai (ix3 0 p 0) * Ideal.exp (l (ix3 0 0 0)) := by
  pointwise [k0_pay9, k0_pay7, k0_pay6]

theorem shift_eq (k : Fin 256) : IntOp.shrui ArithUnit.vector (BitVec.ofNat 32 k.val) 4#32 = BitVec.ofNat 32 (k.val / 16) := by
  revert k
  decide +kernel

/-- Sixteen columns share one lag. -/
theorem pay22_apply (k : Fin 256) : k0_pay22 (F := Ideal) (ix2 0 k) = lag (k.val / 16) := by
  pointwise [k0_pay22]
  rw [shift_eq]
  rfl

theorem pay15_apply (p : Fin 64) : k0_pay15 ar ai l (ix2 p 0) = coefRe (ar (ix3 0 p 0)) (ai (ix3 0 p 0)) (oneRe (ar (ix3 0 p 0) * Ideal.exp (l (ix3 0 0 0))) (ai (ix3 0 p 0) * Ideal.exp (l (ix3 0 0 0)))) (oneIm (ar (ix3 0 p 0) * Ideal.exp (l (ix3 0 0 0))) (ai (ix3 0 p 0) * Ideal.exp (l (ix3 0 0 0)))) := by
  pointwise [k0_pay15, k0_pay14, k0_pay13, k0_pay12, k0_pay11, k0_pay10, pay8_apply, pay9_apply, k0_pay5, k0_pay6]
  rfl

theorem pay16_apply (p : Fin 64) : k0_pay16 ar ai l (ix2 p 0) = coefIm (ar (ix3 0 p 0)) (ai (ix3 0 p 0)) (oneRe (ar (ix3 0 p 0) * Ideal.exp (l (ix3 0 0 0))) (ai (ix3 0 p 0) * Ideal.exp (l (ix3 0 0 0)))) (oneIm (ar (ix3 0 p 0) * Ideal.exp (l (ix3 0 0 0))) (ai (ix3 0 p 0) * Ideal.exp (l (ix3 0 0 0)))) := by
  pointwise [k0_pay16, k0_pay14, k0_pay13, k0_pay12, k0_pay11, k0_pay10, pay8_apply, pay9_apply, k0_pay5, k0_pay6]
  rfl

/-- Real part of the decayed input column, a group's array. -/
def decReG : FVec Ideal S64x256 .f32 :=
  k0_pay27 (k0_pay8 ar l) (k0_pay9 ai l) (k0_pay15 ar ai l) (k0_pay16 ar ai l) (k0_pay17 br) (k0_pay18 bi) (k0_pay19 ar ai l)

/-- Imaginary part of the same. -/
def decImG : FVec Ideal S64x256 .f32 :=
  k0_pay28 (k0_pay8 ar l) (k0_pay9 ai l) (k0_pay15 ar ai l) (k0_pay16 ar ai l) (k0_pay17 br) (k0_pay18 bi) (k0_pay19 ar ai l)

theorem decReG_apply (p : Fin 64) (k : Fin 256) : decReG ar ai l br bi (ix2 p k)
    = decRe (ar (ix3 0 p 0)) (ai (ix3 0 p 0)) (l (ix3 0 0 0)) (lag (k.val / 16)) (br (ix3 0 p k)) (bi (ix3 0 p k)) := by
  unfold decReG
  pointwise [k0_pay27, k0_pay26, k0_pay25, k0_pay24, k0_pay23, k0_pay21, k0_pay20, k0_pay19, k0_pay18, k0_pay17, pay8_apply, pay9_apply, pay15_apply, pay16_apply, pay22_apply]
  rfl

theorem decImG_apply (p : Fin 64) (k : Fin 256) : decImG ar ai l br bi (ix2 p k)
    = decIm (ar (ix3 0 p 0)) (ai (ix3 0 p 0)) (l (ix3 0 0 0)) (lag (k.val / 16)) (br (ix3 0 p k)) (bi (ix3 0 p k)) := by
  unfold decImG
  pointwise [k0_pay28, k0_pay26, k0_pay25, k0_pay24, k0_pay23, k0_pay21, k0_pay20, k0_pay19, k0_pay18, k0_pay17, pay8_apply, pay9_apply, pay15_apply, pay16_apply, pay22_apply]
  rfl

/-- Real part of the decayed input column, as stored. -/
def decReS : FVec Ideal S1x64x256 .f32 :=
  k0_pay29 (k0_pay8 ar l) (k0_pay9 ai l) (k0_pay15 ar ai l) (k0_pay16 ar ai l) (k0_pay17 br) (k0_pay18 bi) (k0_pay19 ar ai l)

/-- Imaginary part of the decayed input column, as stored. -/
def decImS : FVec Ideal S1x64x256 .f32 :=
  k0_pay30 (k0_pay8 ar l) (k0_pay9 ai l) (k0_pay15 ar ai l) (k0_pay16 ar ai l) (k0_pay17 br) (k0_pay18 bi) (k0_pay19 ar ai l)

theorem decReS_apply (p : Fin 64) (k : Fin 256) : decReS ar ai l br bi (ix3 0 p k)
    = decRe (ar (ix3 0 p 0)) (ai (ix3 0 p 0)) (l (ix3 0 0 0)) (lag (k.val / 16)) (br (ix3 0 p k)) (bi (ix3 0 p k)) := by
  rw [← decReG_apply ar ai l br bi]
  unfold decReS
  pointwise [k0_pay29]
  rfl

theorem decImS_apply (p : Fin 64) (k : Fin 256) : decImS ar ai l br bi (ix3 0 p k)
    = decIm (ar (ix3 0 p 0)) (ai (ix3 0 p 0)) (l (ix3 0 0 0)) (lag (k.val / 16)) (br (ix3 0 p k)) (bi (ix3 0 p k)) := by
  rw [← decImG_apply ar ai l br bi]
  unfold decImS
  pointwise [k0_pay30]
  rfl

/-- The response of the group, in the layout it is stored in. -/
def kallG : FVec Ideal S1x16x256 .f32 :=
  k0_pay32 (k0_pay31 (k0_pay8 ar l) (k0_pay9 ai l) (k0_pay15 ar ai l) (k0_pay16 ar ai l) (k0_pay17 br) (k0_pay18 bi) (k0_pay19 ar ai l) er ei)

theorem kallG_apply (c : Fin 16) (k : Fin 256) : kallG ar ai l br bi er ei (ix3 0 c k)
    = (∑ p : Fin 64, er (ix3 0 c p) * decRe (ar (ix3 0 p 0)) (ai (ix3 0 p 0)) (l (ix3 0 0 0)) (lag (k.val / 16)) (br (ix3 0 p k)) (bi (ix3 0 p k)))
      - ∑ p : Fin 64, ei (ix3 0 c p) * decIm (ar (ix3 0 p 0)) (ai (ix3 0 p 0)) (l (ix3 0 0 0)) (lag (k.val / 16)) (br (ix3 0 p k)) (bi (ix3 0 p k)) := by
  simp only [← decReG_apply ar ai l br bi, ← decImG_apply ar ai l br bi]
  unfold kallG
  pointwise [k0_pay32, k0_pay31]
  rfl

/-- Real part of the output coefficients, as stored. -/
def readReG : FVec Ideal S1x64x256 .f32 := k0_pay40 (k0_pay8 ar l) (k0_pay9 ai l) (k0_pay22 (F := Ideal)) cr ci

/-- Imaginary part of the output coefficients with its sign changed, as stored. -/
def readImG : FVec Ideal S1x64x256 .f32 := k0_pay41 (k0_pay8 ar l) (k0_pay9 ai l) (k0_pay22 (F := Ideal)) cr ci

theorem readReG_apply (p : Fin 64) (k : Fin 256) : readReG ar ai l cr ci (ix3 0 p k)
    = readRe (ar (ix3 0 p 0)) (ai (ix3 0 p 0)) (l (ix3 0 0 0)) (lag (k.val / 16)) (cr (ix3 0 p k)) (ci (ix3 0 p k)) := by
  unfold readReG
  pointwise [k0_pay40, k0_pay39, k0_pay38, k0_pay37, k0_pay36, k0_pay35, k0_pay34, k0_pay33, pay8_apply, pay9_apply, pay22_apply]
  rfl

theorem readImG_apply (p : Fin 64) (k : Fin 256) : readImG ar ai l cr ci (ix3 0 p k)
    = readIm (ar (ix3 0 p 0)) (ai (ix3 0 p 0)) (l (ix3 0 0 0)) (lag (k.val / 16)) (cr (ix3 0 p k)) (ci (ix3 0 p k)) := by
  unfold readImG
  pointwise [k0_pay41, k0_pay39, k0_pay38, k0_pay37, k0_pay36, k0_pay35, k0_pay34, k0_pay33, pay8_apply, pay9_apply, pay22_apply]
  rw [zero_sub]
  rfl

/-- Real part of the decay over a chunk, as stored. -/
def chunkReG : FVec Ideal S1x64x1 .f32 := k0_pay45 (k0_pay9 ai l) (k0_pay42 (k0_pay8 ar l)) (k0_pay43 (F := Ideal))

/-- Imaginary part of the decay over a chunk, as stored. -/
def chunkImG : FVec Ideal S1x64x1 .f32 := k0_pay46 (k0_pay9 ai l) (k0_pay42 (k0_pay8 ar l)) (k0_pay43 (F := Ideal))

theorem chunkReG_apply (p : Fin 64) : chunkReG ar ai l (ix3 0 p 0)
    = powRe (ar (ix3 0 p 0) * Ideal.exp (l (ix3 0 0 0))) (ai (ix3 0 p 0) * Ideal.exp (l (ix3 0 0 0))) chunk := by
  unfold chunkReG
  pointwise [k0_pay45, k0_pay44, k0_pay43, k0_pay42, pay8_apply, pay9_apply]
  rfl

theorem chunkImG_apply (p : Fin 64) : chunkImG ar ai l (ix3 0 p 0)
    = powIm (ar (ix3 0 p 0) * Ideal.exp (l (ix3 0 0 0))) (ai (ix3 0 p 0) * Ideal.exp (l (ix3 0 0 0))) chunk := by
  unfold chunkImG
  pointwise [k0_pay46, k0_pay44, k0_pay43, k0_pay42, pay8_apply, pay9_apply]
  rfl

/-! What the body writes back: eight groups in each of the seven blocks. -/

variable (x0 x1 : Vec Ideal S8x64x1 .f32) (x2 : Vec Ideal S8x1x1 .f32) (x3 x4 x7 x8 : Vec Ideal S8x64x256 .f32)
  (x5 x6 : Vec Ideal S8x16x64 .f32)

theorem out9_eq : out0_9 x0 x1 x2 x3 x4 x5 x6 x7 x8 = View.canon (Val := Elt Ideal) (e := .f32) [⟨r0_39, kallG (View.ld x0 r0_35) (View.ld x1 r0_35) (View.ld x2 r0_36) (View.ld x3 r0_37) (View.ld x4 r0_37) (View.ld x5 r0_38) (View.ld x6 r0_38)⟩,
        ⟨r0_34, kallG (View.ld x0 r0_30) (View.ld x1 r0_30) (View.ld x2 r0_31) (View.ld x3 r0_32) (View.ld x4 r0_32) (View.ld x5 r0_33) (View.ld x6 r0_33)⟩,
        ⟨r0_29, kallG (View.ld x0 r0_25) (View.ld x1 r0_25) (View.ld x2 r0_26) (View.ld x3 r0_27) (View.ld x4 r0_27) (View.ld x5 r0_28) (View.ld x6 r0_28)⟩,
        ⟨r0_24, kallG (View.ld x0 r0_20) (View.ld x1 r0_20) (View.ld x2 r0_21) (View.ld x3 r0_22) (View.ld x4 r0_22) (View.ld x5 r0_23) (View.ld x6 r0_23)⟩,
        ⟨r0_19, kallG (View.ld x0 r0_15) (View.ld x1 r0_15) (View.ld x2 r0_16) (View.ld x3 r0_17) (View.ld x4 r0_17) (View.ld x5 r0_18) (View.ld x6 r0_18)⟩,
        ⟨r0_14, kallG (View.ld x0 r0_10) (View.ld x1 r0_10) (View.ld x2 r0_11) (View.ld x3 r0_12) (View.ld x4 r0_12) (View.ld x5 r0_13) (View.ld x6 r0_13)⟩,
        ⟨r0_9, kallG (View.ld x0 r0_5) (View.ld x1 r0_5) (View.ld x2 r0_6) (View.ld x3 r0_7) (View.ld x4 r0_7) (View.ld x5 r0_8) (View.ld x6 r0_8)⟩,
        ⟨r0_4, kallG (View.ld x0 r0_0) (View.ld x1 r0_0) (View.ld x2 r0_1) (View.ld x3 r0_2) (View.ld x4 r0_2) (View.ld x5 r0_3) (View.ld x6 r0_3)⟩] := rfl

/-- The responses. -/
theorem out9_apply (g : Fin 8) (c : Fin 16) (k : Fin 256) : out0_9 x0 x1 x2 x3 x4 x5 x6 x7 x8 (ix3 g c k)
    = (∑ p : Fin 64, x5 (ix3 g c p) * decRe (x0 (ix3 g p 0)) (x1 (ix3 g p 0)) (x2 (ix3 g 0 0)) (lag (k.val / 16)) (x3 (ix3 g p k)) (x4 (ix3 g p k)))
      - ∑ p : Fin 64, x6 (ix3 g c p) * decIm (x0 (ix3 g p 0)) (x1 (ix3 g p 0)) (x2 (ix3 g 0 0)) (lag (k.val / 16)) (x3 (ix3 g p k)) (x4 (ix3 g p k)) := by
  rw [out9_eq]
  canon_tiles z h
  all_goals
    idx_vars z
    obtain rfl : z0 = 0 := Subsingleton.elim _ _
    obtain rfl : c = z1 := Fin.ext h1
    obtain rfl : k = z2 := Fin.ext h2
    rw [kallG_apply]
    first
      | (have e : g = 0 := by (apply Fin.ext; exact h0)
         subst e)
      | (have e : g = 1 := by (apply Fin.ext; exact h0)
         subst e)
      | (have e : g = 2 := by (apply Fin.ext; exact h0)
         subst e)
      | (have e : g = 3 := by (apply Fin.ext; exact h0)
         subst e)
      | (have e : g = 4 := by (apply Fin.ext; exact h0)
         subst e)
      | (have e : g = 5 := by (apply Fin.ext; exact h0)
         subst e)
      | (have e : g = 6 := by (apply Fin.ext; exact h0)
         subst e)
      | (have e : g = 7 := by (apply Fin.ext; exact h0)
         subst e)
    pointwise []

theorem out10_eq : out0_10 x0 x1 x2 x3 x4 x5 x6 x7 x8 = View.canon (Val := Elt Ideal) (e := .f32) [⟨r0_37, decReS (View.ld x0 r0_35) (View.ld x1 r0_35) (View.ld x2 r0_36) (View.ld x3 r0_37) (View.ld x4 r0_37)⟩,
        ⟨r0_32, decReS (View.ld x0 r0_30) (View.ld x1 r0_30) (View.ld x2 r0_31) (View.ld x3 r0_32) (View.ld x4 r0_32)⟩,
        ⟨r0_27, decReS (View.ld x0 r0_25) (View.ld x1 r0_25) (View.ld x2 r0_26) (View.ld x3 r0_27) (View.ld x4 r0_27)⟩,
        ⟨r0_22, decReS (View.ld x0 r0_20) (View.ld x1 r0_20) (View.ld x2 r0_21) (View.ld x3 r0_22) (View.ld x4 r0_22)⟩,
        ⟨r0_17, decReS (View.ld x0 r0_15) (View.ld x1 r0_15) (View.ld x2 r0_16) (View.ld x3 r0_17) (View.ld x4 r0_17)⟩,
        ⟨r0_12, decReS (View.ld x0 r0_10) (View.ld x1 r0_10) (View.ld x2 r0_11) (View.ld x3 r0_12) (View.ld x4 r0_12)⟩,
        ⟨r0_7, decReS (View.ld x0 r0_5) (View.ld x1 r0_5) (View.ld x2 r0_6) (View.ld x3 r0_7) (View.ld x4 r0_7)⟩,
        ⟨r0_2, decReS (View.ld x0 r0_0) (View.ld x1 r0_0) (View.ld x2 r0_1) (View.ld x3 r0_2) (View.ld x4 r0_2)⟩] := rfl

/-- The decayed input columns, real parts. -/
theorem out10_apply (g : Fin 8) (p : Fin 64) (k : Fin 256) : out0_10 x0 x1 x2 x3 x4 x5 x6 x7 x8 (ix3 g p k)
    = decRe (x0 (ix3 g p 0)) (x1 (ix3 g p 0)) (x2 (ix3 g 0 0)) (lag (k.val / 16)) (x3 (ix3 g p k)) (x4 (ix3 g p k)) := by
  rw [out10_eq]
  canon_tiles z h
  all_goals
    idx_vars z
    obtain rfl : z0 = 0 := Subsingleton.elim _ _
    obtain rfl : p = z1 := Fin.ext h1
    obtain rfl : k = z2 := Fin.ext h2
    rw [decReS_apply]
    first
      | (have e : g = 0 := by (apply Fin.ext; exact h0)
         subst e)
      | (have e : g = 1 := by (apply Fin.ext; exact h0)
         subst e)
      | (have e : g = 2 := by (apply Fin.ext; exact h0)
         subst e)
      | (have e : g = 3 := by (apply Fin.ext; exact h0)
         subst e)
      | (have e : g = 4 := by (apply Fin.ext; exact h0)
         subst e)
      | (have e : g = 5 := by (apply Fin.ext; exact h0)
         subst e)
      | (have e : g = 6 := by (apply Fin.ext; exact h0)
         subst e)
      | (have e : g = 7 := by (apply Fin.ext; exact h0)
         subst e)
    pointwise []

theorem out11_eq : out0_11 x0 x1 x2 x3 x4 x5 x6 x7 x8 = View.canon (Val := Elt Ideal) (e := .f32) [⟨r0_37, decImS (View.ld x0 r0_35) (View.ld x1 r0_35) (View.ld x2 r0_36) (View.ld x3 r0_37) (View.ld x4 r0_37)⟩,
        ⟨r0_32, decImS (View.ld x0 r0_30) (View.ld x1 r0_30) (View.ld x2 r0_31) (View.ld x3 r0_32) (View.ld x4 r0_32)⟩,
        ⟨r0_27, decImS (View.ld x0 r0_25) (View.ld x1 r0_25) (View.ld x2 r0_26) (View.ld x3 r0_27) (View.ld x4 r0_27)⟩,
        ⟨r0_22, decImS (View.ld x0 r0_20) (View.ld x1 r0_20) (View.ld x2 r0_21) (View.ld x3 r0_22) (View.ld x4 r0_22)⟩,
        ⟨r0_17, decImS (View.ld x0 r0_15) (View.ld x1 r0_15) (View.ld x2 r0_16) (View.ld x3 r0_17) (View.ld x4 r0_17)⟩,
        ⟨r0_12, decImS (View.ld x0 r0_10) (View.ld x1 r0_10) (View.ld x2 r0_11) (View.ld x3 r0_12) (View.ld x4 r0_12)⟩,
        ⟨r0_7, decImS (View.ld x0 r0_5) (View.ld x1 r0_5) (View.ld x2 r0_6) (View.ld x3 r0_7) (View.ld x4 r0_7)⟩,
        ⟨r0_2, decImS (View.ld x0 r0_0) (View.ld x1 r0_0) (View.ld x2 r0_1) (View.ld x3 r0_2) (View.ld x4 r0_2)⟩] := rfl

/-- The decayed input columns, imaginary parts. -/
theorem out11_apply (g : Fin 8) (p : Fin 64) (k : Fin 256) : out0_11 x0 x1 x2 x3 x4 x5 x6 x7 x8 (ix3 g p k)
    = decIm (x0 (ix3 g p 0)) (x1 (ix3 g p 0)) (x2 (ix3 g 0 0)) (lag (k.val / 16)) (x3 (ix3 g p k)) (x4 (ix3 g p k)) := by
  rw [out11_eq]
  canon_tiles z h
  all_goals
    idx_vars z
    obtain rfl : z0 = 0 := Subsingleton.elim _ _
    obtain rfl : p = z1 := Fin.ext h1
    obtain rfl : k = z2 := Fin.ext h2
    rw [decImS_apply]
    first
      | (have e : g = 0 := by (apply Fin.ext; exact h0)
         subst e)
      | (have e : g = 1 := by (apply Fin.ext; exact h0)
         subst e)
      | (have e : g = 2 := by (apply Fin.ext; exact h0)
         subst e)
      | (have e : g = 3 := by (apply Fin.ext; exact h0)
         subst e)
      | (have e : g = 4 := by (apply Fin.ext; exact h0)
         subst e)
      | (have e : g = 5 := by (apply Fin.ext; exact h0)
         subst e)
      | (have e : g = 6 := by (apply Fin.ext; exact h0)
         subst e)
      | (have e : g = 7 := by (apply Fin.ext; exact h0)
         subst e)
    pointwise []

theorem out12_eq : out0_12 x0 x1 x2 x3 x4 x5 x6 x7 x8 = View.canon (Val := Elt Ideal) (e := .f32) [⟨r0_37, readReG (View.ld x0 r0_35) (View.ld x1 r0_35) (View.ld x2 r0_36) (View.ld x7 r0_37) (View.ld x8 r0_37)⟩,
        ⟨r0_32, readReG (View.ld x0 r0_30) (View.ld x1 r0_30) (View.ld x2 r0_31) (View.ld x7 r0_32) (View.ld x8 r0_32)⟩,
        ⟨r0_27, readReG (View.ld x0 r0_25) (View.ld x1 r0_25) (View.ld x2 r0_26) (View.ld x7 r0_27) (View.ld x8 r0_27)⟩,
        ⟨r0_22, readReG (View.ld x0 r0_20) (View.ld x1 r0_20) (View.ld x2 r0_21) (View.ld x7 r0_22) (View.ld x8 r0_22)⟩,
        ⟨r0_17, readReG (View.ld x0 r0_15) (View.ld x1 r0_15) (View.ld x2 r0_16) (View.ld x7 r0_17) (View.ld x8 r0_17)⟩,
        ⟨r0_12, readReG (View.ld x0 r0_10) (View.ld x1 r0_10) (View.ld x2 r0_11) (View.ld x7 r0_12) (View.ld x8 r0_12)⟩,
        ⟨r0_7, readReG (View.ld x0 r0_5) (View.ld x1 r0_5) (View.ld x2 r0_6) (View.ld x7 r0_7) (View.ld x8 r0_7)⟩,
        ⟨r0_2, readReG (View.ld x0 r0_0) (View.ld x1 r0_0) (View.ld x2 r0_1) (View.ld x7 r0_2) (View.ld x8 r0_2)⟩] := rfl

/-- The output coefficients, real parts. -/
theorem out12_apply (g : Fin 8) (p : Fin 64) (k : Fin 256) : out0_12 x0 x1 x2 x3 x4 x5 x6 x7 x8 (ix3 g p k)
    = readRe (x0 (ix3 g p 0)) (x1 (ix3 g p 0)) (x2 (ix3 g 0 0)) (lag (k.val / 16)) (x7 (ix3 g p k)) (x8 (ix3 g p k)) := by
  rw [out12_eq]
  canon_tiles z h
  all_goals
    idx_vars z
    obtain rfl : z0 = 0 := Subsingleton.elim _ _
    obtain rfl : p = z1 := Fin.ext h1
    obtain rfl : k = z2 := Fin.ext h2
    rw [readReG_apply]
    first
      | (have e : g = 0 := by (apply Fin.ext; exact h0)
         subst e)
      | (have e : g = 1 := by (apply Fin.ext; exact h0)
         subst e)
      | (have e : g = 2 := by (apply Fin.ext; exact h0)
         subst e)
      | (have e : g = 3 := by (apply Fin.ext; exact h0)
         subst e)
      | (have e : g = 4 := by (apply Fin.ext; exact h0)
         subst e)
      | (have e : g = 5 := by (apply Fin.ext; exact h0)
         subst e)
      | (have e : g = 6 := by (apply Fin.ext; exact h0)
         subst e)
      | (have e : g = 7 := by (apply Fin.ext; exact h0)
         subst e)
    pointwise []

theorem out13_eq : out0_13 x0 x1 x2 x3 x4 x5 x6 x7 x8 = View.canon (Val := Elt Ideal) (e := .f32) [⟨r0_37, readImG (View.ld x0 r0_35) (View.ld x1 r0_35) (View.ld x2 r0_36) (View.ld x7 r0_37) (View.ld x8 r0_37)⟩,
        ⟨r0_32, readImG (View.ld x0 r0_30) (View.ld x1 r0_30) (View.ld x2 r0_31) (View.ld x7 r0_32) (View.ld x8 r0_32)⟩,
        ⟨r0_27, readImG (View.ld x0 r0_25) (View.ld x1 r0_25) (View.ld x2 r0_26) (View.ld x7 r0_27) (View.ld x8 r0_27)⟩,
        ⟨r0_22, readImG (View.ld x0 r0_20) (View.ld x1 r0_20) (View.ld x2 r0_21) (View.ld x7 r0_22) (View.ld x8 r0_22)⟩,
        ⟨r0_17, readImG (View.ld x0 r0_15) (View.ld x1 r0_15) (View.ld x2 r0_16) (View.ld x7 r0_17) (View.ld x8 r0_17)⟩,
        ⟨r0_12, readImG (View.ld x0 r0_10) (View.ld x1 r0_10) (View.ld x2 r0_11) (View.ld x7 r0_12) (View.ld x8 r0_12)⟩,
        ⟨r0_7, readImG (View.ld x0 r0_5) (View.ld x1 r0_5) (View.ld x2 r0_6) (View.ld x7 r0_7) (View.ld x8 r0_7)⟩,
        ⟨r0_2, readImG (View.ld x0 r0_0) (View.ld x1 r0_0) (View.ld x2 r0_1) (View.ld x7 r0_2) (View.ld x8 r0_2)⟩] := rfl

/-- The output coefficients, imaginary parts with the sign changed. -/
theorem out13_apply (g : Fin 8) (p : Fin 64) (k : Fin 256) : out0_13 x0 x1 x2 x3 x4 x5 x6 x7 x8 (ix3 g p k)
    = readIm (x0 (ix3 g p 0)) (x1 (ix3 g p 0)) (x2 (ix3 g 0 0)) (lag (k.val / 16)) (x7 (ix3 g p k)) (x8 (ix3 g p k)) := by
  rw [out13_eq]
  canon_tiles z h
  all_goals
    idx_vars z
    obtain rfl : z0 = 0 := Subsingleton.elim _ _
    obtain rfl : p = z1 := Fin.ext h1
    obtain rfl : k = z2 := Fin.ext h2
    rw [readImG_apply]
    first
      | (have e : g = 0 := by (apply Fin.ext; exact h0)
         subst e)
      | (have e : g = 1 := by (apply Fin.ext; exact h0)
         subst e)
      | (have e : g = 2 := by (apply Fin.ext; exact h0)
         subst e)
      | (have e : g = 3 := by (apply Fin.ext; exact h0)
         subst e)
      | (have e : g = 4 := by (apply Fin.ext; exact h0)
         subst e)
      | (have e : g = 5 := by (apply Fin.ext; exact h0)
         subst e)
      | (have e : g = 6 := by (apply Fin.ext; exact h0)
         subst e)
      | (have e : g = 7 := by (apply Fin.ext; exact h0)
         subst e)
    pointwise []

theorem out14_eq : out0_14 x0 x1 x2 x3 x4 x5 x6 x7 x8 = View.canon (Val := Elt Ideal) (e := .f32) [⟨r0_35, chunkReG (View.ld x0 r0_35) (View.ld x1 r0_35) (View.ld x2 r0_36)⟩,
        ⟨r0_30, chunkReG (View.ld x0 r0_30) (View.ld x1 r0_30) (View.ld x2 r0_31)⟩,
        ⟨r0_25, chunkReG (View.ld x0 r0_25) (View.ld x1 r0_25) (View.ld x2 r0_26)⟩,
        ⟨r0_20, chunkReG (View.ld x0 r0_20) (View.ld x1 r0_20) (View.ld x2 r0_21)⟩,
        ⟨r0_15, chunkReG (View.ld x0 r0_15) (View.ld x1 r0_15) (View.ld x2 r0_16)⟩,
        ⟨r0_10, chunkReG (View.ld x0 r0_10) (View.ld x1 r0_10) (View.ld x2 r0_11)⟩,
        ⟨r0_5, chunkReG (View.ld x0 r0_5) (View.ld x1 r0_5) (View.ld x2 r0_6)⟩,
        ⟨r0_0, chunkReG (View.ld x0 r0_0) (View.ld x1 r0_0) (View.ld x2 r0_1)⟩] := rfl

/-- The decays over a chunk, real parts. -/
theorem out14_apply (g : Fin 8) (p : Fin 64) : out0_14 x0 x1 x2 x3 x4 x5 x6 x7 x8 (ix3 g p 0)
    = powRe (x0 (ix3 g p 0) * Ideal.exp (x2 (ix3 g 0 0))) (x1 (ix3 g p 0) * Ideal.exp (x2 (ix3 g 0 0))) chunk := by
  rw [out14_eq]
  canon_tiles z h
  all_goals
    idx_vars z
    obtain rfl : z0 = 0 := Subsingleton.elim _ _
    obtain rfl : p = z1 := Fin.ext h1
    obtain rfl : z2 = 0 := Subsingleton.elim _ _
    rw [chunkReG_apply]
    first
      | (have e : g = 0 := by (apply Fin.ext; exact h0)
         subst e)
      | (have e : g = 1 := by (apply Fin.ext; exact h0)
         subst e)
      | (have e : g = 2 := by (apply Fin.ext; exact h0)
         subst e)
      | (have e : g = 3 := by (apply Fin.ext; exact h0)
         subst e)
      | (have e : g = 4 := by (apply Fin.ext; exact h0)
         subst e)
      | (have e : g = 5 := by (apply Fin.ext; exact h0)
         subst e)
      | (have e : g = 6 := by (apply Fin.ext; exact h0)
         subst e)
      | (have e : g = 7 := by (apply Fin.ext; exact h0)
         subst e)
    pointwise []

theorem out15_eq : out0_15 x0 x1 x2 x3 x4 x5 x6 x7 x8 = View.canon (Val := Elt Ideal) (e := .f32) [⟨r0_35, chunkImG (View.ld x0 r0_35) (View.ld x1 r0_35) (View.ld x2 r0_36)⟩,
        ⟨r0_30, chunkImG (View.ld x0 r0_30) (View.ld x1 r0_30) (View.ld x2 r0_31)⟩,
        ⟨r0_25, chunkImG (View.ld x0 r0_25) (View.ld x1 r0_25) (View.ld x2 r0_26)⟩,
        ⟨r0_20, chunkImG (View.ld x0 r0_20) (View.ld x1 r0_20) (View.ld x2 r0_21)⟩,
        ⟨r0_15, chunkImG (View.ld x0 r0_15) (View.ld x1 r0_15) (View.ld x2 r0_16)⟩,
        ⟨r0_10, chunkImG (View.ld x0 r0_10) (View.ld x1 r0_10) (View.ld x2 r0_11)⟩,
        ⟨r0_5, chunkImG (View.ld x0 r0_5) (View.ld x1 r0_5) (View.ld x2 r0_6)⟩,
        ⟨r0_0, chunkImG (View.ld x0 r0_0) (View.ld x1 r0_0) (View.ld x2 r0_1)⟩] := rfl

/-- The decays over a chunk, imaginary parts. -/
theorem out15_apply (g : Fin 8) (p : Fin 64) : out0_15 x0 x1 x2 x3 x4 x5 x6 x7 x8 (ix3 g p 0)
    = powIm (x0 (ix3 g p 0) * Ideal.exp (x2 (ix3 g 0 0))) (x1 (ix3 g p 0) * Ideal.exp (x2 (ix3 g 0 0))) chunk := by
  rw [out15_eq]
  canon_tiles z h
  all_goals
    idx_vars z
    obtain rfl : z0 = 0 := Subsingleton.elim _ _
    obtain rfl : p = z1 := Fin.ext h1
    obtain rfl : z2 = 0 := Subsingleton.elim _ _
    rw [chunkImG_apply]
    first
      | (have e : g = 0 := by (apply Fin.ext; exact h0)
         subst e)
      | (have e : g = 1 := by (apply Fin.ext; exact h0)
         subst e)
      | (have e : g = 2 := by (apply Fin.ext; exact h0)
         subst e)
      | (have e : g = 3 := by (apply Fin.ext; exact h0)
         subst e)
      | (have e : g = 4 := by (apply Fin.ext; exact h0)
         subst e)
      | (have e : g = 5 := by (apply Fin.ext; exact h0)
         subst e)
      | (have e : g = 6 := by (apply Fin.ext; exact h0)
         subst e)
      | (have e : g = 7 := by (apply Fin.ext; exact h0)
         subst e)
    pointwise []

end Cert.PrepIdeal.Block

end
-- ==== Proof.PrepReference.lean ====
/-
  The reference's seven results, entry by entry: column `16 n + j` belongs to lag `n` and channel `j`.
-/
module

public import proofs.«01_k».proof.Proof.Gen.PrepRefIdeal.Read
public import proofs.«01_k».proof.Proof.PrepEntry
public import Idealize.ShloMosaic.Lib.KernelVsHost
public import Idealize.ShloMosaic.Lib.Pipeline.Value
public import Idealize.ShloMosaic.Lib.Pointwise

@[expose] public section

set_option maxRecDepth 16384

noncomputable section

namespace Cert.PrepRefIdeal.Entries

open Cert.PrepRefIdeal Cert.PrepRefIdeal.Gen Cert.PrepRefIdeal.Read Cert.PrepEntry Idealize.ShloMosaic Idealize.ShloMosaic.TcCoe Idealize.SL.Sem

variable (x0 x1 : (⟨S32x64, .f32⟩ : BufTy).Contents (Elt Ideal)) (x2 : (⟨S32, .f32⟩ : BufTy).Contents (Elt Ideal))
  (x3 x4 : (⟨S32x64x16, .f32⟩ : BufTy).Contents (Elt Ideal)) (x5 x6 : (⟨S32x16x64, .f32⟩ : BufTy).Contents (Elt Ideal))

/-! The seven results as entries. -/

/-- The channel of column `k`. -/
def chan (k : Fin 256) : Fin 16 := ⟨k.val % 16, Nat.mod_lt _ (by omega)⟩

/-- Decayed input column, real part: state `p` of group `g`, column `k`. -/
def dRe (g : Fin 32) (p : Fin 64) (k : Fin 256) : EReal :=
  decRe (x0 (ix2 g p)) (x1 (ix2 g p)) (x2 (ix1 g)) (lag (k.val / 16)) (x3 (ix3 g p (chan k))) (x4 (ix3 g p (chan k)))

/-- Decayed input column, imaginary part. -/
def dIm (g : Fin 32) (p : Fin 64) (k : Fin 256) : EReal :=
  decIm (x0 (ix2 g p)) (x1 (ix2 g p)) (x2 (ix1 g)) (lag (k.val / 16)) (x3 (ix3 g p (chan k))) (x4 (ix3 g p (chan k)))

/-- The response of output channel `c` of group `g` at column `k`. -/
def resp (g : Fin 32) (c : Fin 16) (k : Fin 256) : EReal :=
  (∑ p : Fin 64, x5 (ix3 g c p) * dRe x0 x1 x2 x3 x4 g p k) - ∑ p : Fin 64, x6 (ix3 g c p) * dIm x0 x1 x2 x3 x4 g p k

/-- Output coefficient, real part. -/
def vRe (g : Fin 32) (p : Fin 64) (k : Fin 256) : EReal :=
  readRe (x0 (ix2 g p)) (x1 (ix2 g p)) (x2 (ix1 g)) (lag (k.val / 16)) (x5 (ix3 g (chan k) p)) (x6 (ix3 g (chan k) p))

/-- Output coefficient, imaginary part with its sign changed. -/
def vIm (g : Fin 32) (p : Fin 64) (k : Fin 256) : EReal :=
  readIm (x0 (ix2 g p)) (x1 (ix2 g p)) (x2 (ix1 g)) (lag (k.val / 16)) (x5 (ix3 g (chan k) p)) (x6 (ix3 g (chan k) p))

/-- Decay over a chunk, real part. -/
def cRe (g : Fin 32) (p : Fin 64) : EReal :=
  powRe (x0 (ix2 g p) * Ideal.exp (x2 (ix1 g))) (x1 (ix2 g p) * Ideal.exp (x2 (ix1 g))) chunk

/-- Decay over a chunk, imaginary part. -/
def cIm (g : Fin 32) (p : Fin 64) : EReal :=
  powIm (x0 (ix2 g p) * Ideal.exp (x2 (ix1 g))) (x1 (ix2 g p) * Ideal.exp (x2 (ix1 g))) chunk

/-! The reference's intermediate arrays. -/

theorem rate_re (g : Fin 32) (p : Fin 64) : val_main_v3 (F := Ideal) x0 x2 (ix2 g p) = x0 (ix2 g p) * Ideal.exp (x2 (ix1 g)) := by
  pointwise [val_main_v3, val_main_v2, val_main_v1, val_main_v0]

theorem rate_im (g : Fin 32) (p : Fin 64) : val_main_v6 (F := Ideal) x1 x2 (ix2 g p) = x1 (ix2 g p) * Ideal.exp (x2 (ix1 g)) := by
  pointwise [val_main_v6, val_main_v5, val_main_v1, val_main_v0]

theorem coef_re (g : Fin 32) (p : Fin 64) : val_main_v19 (F := Ideal) x0 x1 x2 (ix2 g p)
    = coefRe (x0 (ix2 g p)) (x1 (ix2 g p)) (oneRe (x0 (ix2 g p) * Ideal.exp (x2 (ix1 g))) (x1 (ix2 g p) * Ideal.exp (x2 (ix1 g)))) (oneIm (x0 (ix2 g p) * Ideal.exp (x2 (ix1 g))) (x1 (ix2 g p) * Ideal.exp (x2 (ix1 g)))) := by
  pointwise [val_main_v7, val_main_v8, val_main_v9, val_main_v10, val_main_v11, val_main_v12, val_main_v13, val_main_v14, val_main_v15, val_main_v16, val_main_v17, val_main_v18, val_main_v19, val_main_v4, val_main_cst, rate_re, rate_im]
  rfl

theorem coef_im (g : Fin 32) (p : Fin 64) : val_main_v25 (F := Ideal) x0 x1 x2 (ix2 g p)
    = coefIm (x0 (ix2 g p)) (x1 (ix2 g p)) (oneRe (x0 (ix2 g p) * Ideal.exp (x2 (ix1 g))) (x1 (ix2 g p) * Ideal.exp (x2 (ix1 g)))) (oneIm (x0 (ix2 g p) * Ideal.exp (x2 (ix1 g))) (x1 (ix2 g p) * Ideal.exp (x2 (ix1 g)))) := by
  pointwise [val_main_v7, val_main_v8, val_main_v9, val_main_v10, val_main_v11, val_main_v12, val_main_v13, val_main_v20, val_main_v21, val_main_v22, val_main_v23, val_main_v24, val_main_v25, val_main_v4, val_main_cst_0, rate_re, rate_im]
  rfl

theorem in_re (g : Fin 32) (p : Fin 64) (j : Fin 16) : val_main_v32 (F := Ideal) x0 x1 x2 x3 x4 (ix3 g p j)
    = inRe (x0 (ix2 g p)) (x1 (ix2 g p)) (x2 (ix1 g)) (x3 (ix3 g p j)) (x4 (ix3 g p j)) := by
  pointwise [val_main_v26, val_main_v27, val_main_v28, val_main_v29, val_main_v30, val_main_v31, val_main_v32, coef_re, coef_im]
  rfl

theorem in_im (g : Fin 32) (p : Fin 64) (j : Fin 16) : val_main_v39 (F := Ideal) x0 x1 x2 x3 x4 (ix3 g p j)
    = inIm (x0 (ix2 g p)) (x1 (ix2 g p)) (x2 (ix1 g)) (x3 (ix3 g p j)) (x4 (ix3 g p j)) := by
  pointwise [val_main_v33, val_main_v34, val_main_v35, val_main_v36, val_main_v37, val_main_v38, val_main_v39, coef_re, coef_im]
  rfl

theorem lag_eq (n : Fin 16) : val_main_v41 (F := Ideal) (ix1 n) = lag n.val := by
  pointwise [val_main_v41, val_main_v40]
  rfl

theorem pow_re (g : Fin 32) (p : Fin 64) (n : Fin 16) : val_main_v58 (F := Ideal) x0 x1 x2 (ix3 g p n)
    = powRe (x0 (ix2 g p) * Ideal.exp (x2 (ix1 g))) (x1 (ix2 g p) * Ideal.exp (x2 (ix1 g))) (lag n.val) := by
  pointwise [val_main_v42, val_main_v43, val_main_v44, val_main_v45, val_main_v46, val_main_v47, val_main_v48, val_main_v49, val_main_v50, val_main_v51, val_main_v52, val_main_v53, val_main_v54, val_main_v55, val_main_v56, val_main_v57, val_main_v58, val_main_v1, val_main_v0, lag_eq]
  rfl

theorem pow_im (g : Fin 32) (p : Fin 64) (n : Fin 16) : val_main_v60 (F := Ideal) x0 x1 x2 (ix3 g p n)
    = powIm (x0 (ix2 g p) * Ideal.exp (x2 (ix1 g))) (x1 (ix2 g p) * Ideal.exp (x2 (ix1 g))) (lag n.val) := by
  pointwise [val_main_v42, val_main_v43, val_main_v44, val_main_v45, val_main_v46, val_main_v47, val_main_v48, val_main_v49, val_main_v50, val_main_v51, val_main_v52, val_main_v53, val_main_v54, val_main_v55, val_main_v56, val_main_v57, val_main_v59, val_main_v60, val_main_v1, val_main_v0, lag_eq]
  rfl

theorem dec_re (g : Fin 32) (p : Fin 64) (n j : Fin 16) : val_main_v71 (F := Ideal) x0 x1 x2 x3 x4 (ix4 g p n j)
    = decRe (x0 (ix2 g p)) (x1 (ix2 g p)) (x2 (ix1 g)) (lag n.val) (x3 (ix3 g p j)) (x4 (ix3 g p j)) := by
  pointwise [val_main_v61, val_main_v62, val_main_v63, val_main_v64, val_main_v65, val_main_v66, val_main_v67, val_main_v68, val_main_v69, val_main_v70, val_main_v71, pow_re, pow_im, in_re, in_im]
  rfl

theorem dec_im (g : Fin 32) (p : Fin 64) (n j : Fin 16) : val_main_v80 (F := Ideal) x0 x1 x2 x3 x4 (ix4 g p n j)
    = decIm (x0 (ix2 g p)) (x1 (ix2 g p)) (x2 (ix1 g)) (lag n.val) (x3 (ix3 g p j)) (x4 (ix3 g p j)) := by
  pointwise [val_main_v61, val_main_v62, val_main_v63, val_main_v67, val_main_v72, val_main_v73, val_main_v74, val_main_v75, val_main_v76, val_main_v77, val_main_v78, val_main_v79, val_main_v80, pow_re, pow_im, in_re, in_im]
  rfl

theorem resp_eq (g : Fin 32) (c : Fin 16) (n j : Fin 16) : val_main_v83 (F := Ideal) x0 x1 x2 x3 x4 x5 x6 (ix4 g c n j)
    = (∑ p : Fin 64, x5 (ix3 g c p) * decRe (x0 (ix2 g p)) (x1 (ix2 g p)) (x2 (ix1 g)) (lag n.val) (x3 (ix3 g p j)) (x4 (ix3 g p j)))
      - ∑ p : Fin 64, x6 (ix3 g c p) * decIm (x0 (ix2 g p)) (x1 (ix2 g p)) (x2 (ix1 g)) (lag n.val) (x3 (ix3 g p j)) (x4 (ix3 g p j)) := by
  simp only [← dec_re, ← dec_im]
  pointwise [val_main_v81, val_main_v82, val_main_v83]

theorem next_re (g : Fin 32) (p : Fin 64) (n : Fin 16) : val_main_v102 (F := Ideal) x0 x1 x2 (ix3 g p n)
    = powRe (x0 (ix2 g p) * Ideal.exp (x2 (ix1 g))) (x1 (ix2 g p) * Ideal.exp (x2 (ix1 g))) (lag n.val + 1) := by
  pointwise [val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_cst_1, val_main_v1, val_main_v0, lag_eq]
  rfl

theorem next_im (g : Fin 32) (p : Fin 64) (n : Fin 16) : val_main_v104 (F := Ideal) x0 x1 x2 (ix3 g p n)
    = powIm (x0 (ix2 g p) * Ideal.exp (x2 (ix1 g))) (x1 (ix2 g p) * Ideal.exp (x2 (ix1 g))) (lag n.val + 1) := by
  pointwise [val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v103, val_main_v104, val_main_cst_1, val_main_v1, val_main_v0, lag_eq]
  rfl

theorem read_re (g : Fin 32) (p : Fin 64) (n j : Fin 16) : val_main_v117 (F := Ideal) x0 x1 x2 x5 x6 (ix4 g p n j)
    = readRe (x0 (ix2 g p)) (x1 (ix2 g p)) (x2 (ix1 g)) (lag n.val) (x5 (ix3 g j p)) (x6 (ix3 g j p)) := by
  pointwise [val_main_v105, val_main_v106, val_main_v107, val_main_v108, val_main_v109, val_main_v110, val_main_v111, val_main_v112, val_main_v113, val_main_v114, val_main_v115, val_main_v116, val_main_v117, next_re, next_im]
  rfl

theorem read_im (g : Fin 32) (p : Fin 64) (n j : Fin 16) : val_main_v125 (F := Ideal) x0 x1 x2 x5 x6 (ix4 g p n j)
    = readIm (x0 (ix2 g p)) (x1 (ix2 g p)) (x2 (ix1 g)) (lag n.val) (x5 (ix3 g j p)) (x6 (ix3 g j p)) := by
  pointwise [val_main_v105, val_main_v106, val_main_v107, val_main_v108, val_main_v109, val_main_v110, val_main_v118, val_main_v119, val_main_v120, val_main_v121, val_main_v122, val_main_v123, val_main_v124, val_main_v125, next_re, next_im]
  rfl

theorem chunk_re (g : Fin 32) (p : Fin 64) : val_main_v138 (F := Ideal) x0 x1 x2 (ix3 g p 0) = cRe x0 x1 x2 g p := by
  pointwise [val_main_v126, val_main_v127, val_main_v128, val_main_v129, val_main_v130, val_main_v131, val_main_v132, val_main_v133, val_main_v134, val_main_v135, val_main_v136, val_main_v137, val_main_v138, val_main_cst_2, val_main_cst_3, val_main_v1, val_main_v0]
  rfl

theorem chunk_im (g : Fin 32) (p : Fin 64) : val_main_v140 (F := Ideal) x0 x1 x2 (ix3 g p 0) = cIm x0 x1 x2 g p := by
  pointwise [val_main_v126, val_main_v127, val_main_v128, val_main_v129, val_main_v130, val_main_v131, val_main_v132, val_main_v133, val_main_v134, val_main_v135, val_main_v136, val_main_v137, val_main_v139, val_main_v140, val_main_cst_2, val_main_cst_3, val_main_v1, val_main_v0]
  rfl

/-! The results: column `16 n + j` is the entry for lag `n` and channel `j`. -/

theorem result141 : val_main_v141 (F := Ideal) x0 x1 x2 x3 x4 x5 x6 = fun i => resp x0 x1 x2 x3 x4 x5 x6 (i 0) (i 1) (i 2) := by
  funext i
  idx_vars i
  rw [val_main_v141_apply, show idx_main_v141 (ix3 i0 i1 i2) = ix4 i0 i1 ⟨i2.val / 16, by omega⟩ (chan i2) from
    funext fun a => Fin.ext (by
      have h0 : i0.val < 32 := i0.isLt
      have h1 : i1.val < 16 := i1.isLt
      have h2 : i2.val < 256 := i2.isLt
      match a with
      | ⟨0, _⟩ => simp only [chan, ix3, ix4, Matrix.cons_val]; omega
      | ⟨1, _⟩ => simp only [chan, ix3, ix4, Matrix.cons_val]; omega
      | ⟨2, _⟩ => simp only [chan, ix3, ix4, Matrix.cons_val]; omega
      | ⟨3, _⟩ => simp only [chan, ix3, ix4, Matrix.cons_val]; omega), resp_eq]
  rfl

theorem result142 : val_main_v142 (F := Ideal) x0 x1 x2 x3 x4 = fun i => dRe x0 x1 x2 x3 x4 (i 0) (i 1) (i 2) := by
  funext i
  idx_vars i
  rw [val_main_v142_apply, show idx_main_v142 (ix3 i0 i1 i2) = ix4 i0 i1 ⟨i2.val / 16, by omega⟩ (chan i2) from
    funext fun a => Fin.ext (by
      have h0 : i0.val < 32 := i0.isLt
      have h1 : i1.val < 64 := i1.isLt
      have h2 : i2.val < 256 := i2.isLt
      match a with
      | ⟨0, _⟩ => simp only [chan, ix3, ix4, Matrix.cons_val]; omega
      | ⟨1, _⟩ => simp only [chan, ix3, ix4, Matrix.cons_val]; omega
      | ⟨2, _⟩ => simp only [chan, ix3, ix4, Matrix.cons_val]; omega
      | ⟨3, _⟩ => simp only [chan, ix3, ix4, Matrix.cons_val]; omega), dec_re]
  rfl

theorem result143 : val_main_v143 (F := Ideal) x0 x1 x2 x3 x4 = fun i => dIm x0 x1 x2 x3 x4 (i 0) (i 1) (i 2) := by
  funext i
  idx_vars i
  rw [val_main_v143_apply, show idx_main_v143 (ix3 i0 i1 i2) = ix4 i0 i1 ⟨i2.val / 16, by omega⟩ (chan i2) from
    funext fun a => Fin.ext (by
      have h0 : i0.val < 32 := i0.isLt
      have h1 : i1.val < 64 := i1.isLt
      have h2 : i2.val < 256 := i2.isLt
      match a with
      | ⟨0, _⟩ => simp only [chan, ix3, ix4, Matrix.cons_val]; omega
      | ⟨1, _⟩ => simp only [chan, ix3, ix4, Matrix.cons_val]; omega
      | ⟨2, _⟩ => simp only [chan, ix3, ix4, Matrix.cons_val]; omega
      | ⟨3, _⟩ => simp only [chan, ix3, ix4, Matrix.cons_val]; omega), dec_im]
  rfl

theorem result144 : val_main_v144 (F := Ideal) x0 x1 x2 x5 x6 = fun i => vRe x0 x1 x2 x5 x6 (i 0) (i 1) (i 2) := by
  funext i
  idx_vars i
  rw [val_main_v144_apply, show idx_main_v144 (ix3 i0 i1 i2) = ix4 i0 i1 ⟨i2.val / 16, by omega⟩ (chan i2) from
    funext fun a => Fin.ext (by
      have h0 : i0.val < 32 := i0.isLt
      have h1 : i1.val < 64 := i1.isLt
      have h2 : i2.val < 256 := i2.isLt
      match a with
      | ⟨0, _⟩ => simp only [chan, ix3, ix4, Matrix.cons_val]; omega
      | ⟨1, _⟩ => simp only [chan, ix3, ix4, Matrix.cons_val]; omega
      | ⟨2, _⟩ => simp only [chan, ix3, ix4, Matrix.cons_val]; omega
      | ⟨3, _⟩ => simp only [chan, ix3, ix4, Matrix.cons_val]; omega), read_re]
  rfl

theorem result145 : val_main_v145 (F := Ideal) x0 x1 x2 x5 x6 = fun i => vIm x0 x1 x2 x5 x6 (i 0) (i 1) (i 2) := by
  funext i
  idx_vars i
  rw [val_main_v145_apply, show idx_main_v145 (ix3 i0 i1 i2) = ix4 i0 i1 ⟨i2.val / 16, by omega⟩ (chan i2) from
    funext fun a => Fin.ext (by
      have h0 : i0.val < 32 := i0.isLt
      have h1 : i1.val < 64 := i1.isLt
      have h2 : i2.val < 256 := i2.isLt
      match a with
      | ⟨0, _⟩ => simp only [chan, ix3, ix4, Matrix.cons_val]; omega
      | ⟨1, _⟩ => simp only [chan, ix3, ix4, Matrix.cons_val]; omega
      | ⟨2, _⟩ => simp only [chan, ix3, ix4, Matrix.cons_val]; omega
      | ⟨3, _⟩ => simp only [chan, ix3, ix4, Matrix.cons_val]; omega), read_im]
  rfl

theorem result138 : val_main_v138 (F := Ideal) x0 x1 x2 = fun i => cRe x0 x1 x2 (i 0) (i 1) := by
  funext i
  idx_vars i
  obtain rfl : i2 = 0 := Subsingleton.elim _ _
  exact chunk_re x0 x1 x2 i0 i1

theorem result140 : val_main_v140 (F := Ideal) x0 x1 x2 = fun i => cIm x0 x1 x2 (i 0) (i 1) := by
  funext i
  idx_vars i
  obtain rfl : i2 = 0 := Subsingleton.elim _ _
  exact chunk_im x0 x1 x2 i0 i1

end Cert.PrepRefIdeal.Entries

end
-- ==== Proof.PrepValue.lean ====
/-
  The preparation's seven result arrays as functions of its arguments: the entries of PrepReference.lean. Grid point `t` prepares
  the eight groups from `8 t`.
-/
module

public import proofs.«01_k».proof.Proof.Gen.PrepIdeal.Value
public import proofs.«01_k».proof.Proof.PrepBlock
public import proofs.«01_k».proof.Proof.PrepReference

@[expose] public section

set_option maxRecDepth 16384

noncomputable section

namespace Cert.PrepIdeal.Whole

open Cert.PrepIdeal Cert.PrepIdeal.Gen Cert.PrepEntry Cert.PrepRefIdeal.Entries Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Where each window's block lies: grid point `t` has the eight groups from `8 t`. -/
theorem index_facts : ∀ t : Fin grid0.N,
    (win0_0.index t = ![(grid0.coords t 0).val, 0, 0] ∧ win0_1.index t = ![(grid0.coords t 0).val, 0, 0] ∧ win0_2.index t = ![(grid0.coords t 0).val, 0, 0] ∧ win0_3.index t = ![(grid0.coords t 0).val, 0, 0] ∧ win0_4.index t = ![(grid0.coords t 0).val, 0, 0] ∧ win0_5.index t = ![(grid0.coords t 0).val, 0, 0] ∧ win0_6.index t = ![(grid0.coords t 0).val, 0, 0] ∧ win0_7.index t = ![(grid0.coords t 0).val, 0, 0] ∧ win0_8.index t = ![(grid0.coords t 0).val, 0, 0])
    ∧ (win0_9.index t = ![(grid0.coords t 0).val, 0, 0] ∧ win0_10.index t = ![(grid0.coords t 0).val, 0, 0] ∧ win0_11.index t = ![(grid0.coords t 0).val, 0, 0] ∧ win0_12.index t = ![(grid0.coords t 0).val, 0, 0] ∧ win0_13.index t = ![(grid0.coords t 0).val, 0, 0] ∧ win0_14.index t = ![(grid0.coords t 0).val, 0, 0] ∧ win0_15.index t = ![(grid0.coords t 0).val, 0, 0]) := by
  decide +kernel

/-! What the host code lays out: sixteen copies of the channels side by side, one for each lag. -/

theorem tile_apply (b : S32x64x16.Idx → EReal) (g : Fin 32) (p : Fin 64) (k : Fin 256) :
    shapeCast S32x64x256 (broadcastInDim S1x32x1x64x16x16 ![0, 1, 2, 3, 4, 5] bcast_S1x32x1x64x1x16_S1x32x1x64x16x16_0_1_2_3_4_5
      (shapeCast S1x32x1x64x1x16 b shapeCasts_S32x64x16_S1x32x1x64x1x16)) shapeCasts_S1x32x1x64x16x16_S32x64x256 (ix3 g p k) = b (ix3 g p (chan k)) := by
  pointwise []
  rfl

theorem entry5 (c : Dev nD) : V m c main_v5 = shapeCast S32x64x256 (broadcastInDim S1x32x1x64x16x16 ![0, 1, 2, 3, 4, 5] bcast_S1x32x1x64x1x16_S1x32x1x64x16x16_0_1_2_3_4_5
      (shapeCast S1x32x1x64x1x16 (m ((c : Thread nD τ).loc main_arg3)) shapeCasts_S32x64x16_S1x32x1x64x1x16)) shapeCasts_S1x32x1x64x16x16_S32x64x256 := by
  unfold V
  simp only [hostOps0]
  after_results_simp <;> rfl

theorem entry5_apply (c : Dev nD) (g : Fin 32) (p : Fin 64) (k : Fin 256) : V m c main_v5 (ix3 g p k) = m ((c : Thread nD τ).loc main_arg3) (ix3 g p (chan k)) := by
  rw [entry5, tile_apply]

theorem entry8 (c : Dev nD) : V m c main_v8 = shapeCast S32x64x256 (broadcastInDim S1x32x1x64x16x16 ![0, 1, 2, 3, 4, 5] bcast_S1x32x1x64x1x16_S1x32x1x64x16x16_0_1_2_3_4_5
      (shapeCast S1x32x1x64x1x16 (m ((c : Thread nD τ).loc main_arg4)) shapeCasts_S32x64x16_S1x32x1x64x1x16)) shapeCasts_S1x32x1x64x16x16_S32x64x256 := by
  unfold V
  simp only [hostOps0]
  after_results_simp <;> rfl

theorem entry8_apply (c : Dev nD) (g : Fin 32) (p : Fin 64) (k : Fin 256) : V m c main_v8 (ix3 g p k) = m ((c : Thread nD τ).loc main_arg4) (ix3 g p (chan k)) := by
  rw [entry8, tile_apply]

theorem entry12 (c : Dev nD) : V m c main_v12 = shapeCast S32x64x256 (broadcastInDim S1x32x1x64x16x16 ![0, 1, 2, 3, 4, 5] bcast_S1x32x1x64x1x16_S1x32x1x64x16x16_0_1_2_3_4_5
      (shapeCast S1x32x1x64x1x16 (transpose S32x64x16 [0, 2, 1] (m ((c : Thread nD τ).loc main_arg5)) transposes_S32x16x64_S32x64x16_0_2_1) shapeCasts_S32x64x16_S1x32x1x64x1x16)) shapeCasts_S1x32x1x64x16x16_S32x64x256 := by
  unfold V
  simp only [hostOps0]
  after_results_simp <;> rfl

theorem entry12_apply (c : Dev nD) (g : Fin 32) (p : Fin 64) (k : Fin 256) : V m c main_v12 (ix3 g p k) = m ((c : Thread nD τ).loc main_arg5) (ix3 g (chan k) p) := by
  rw [entry12, tile_apply]
  exact ValueIdx.transpose_ix3_021_apply _ _ g p (chan k)

theorem entry16 (c : Dev nD) : V m c main_v16 = shapeCast S32x64x256 (broadcastInDim S1x32x1x64x16x16 ![0, 1, 2, 3, 4, 5] bcast_S1x32x1x64x1x16_S1x32x1x64x16x16_0_1_2_3_4_5
      (shapeCast S1x32x1x64x1x16 (transpose S32x64x16 [0, 2, 1] (m ((c : Thread nD τ).loc main_arg6)) transposes_S32x16x64_S32x64x16_0_2_1) shapeCasts_S32x64x16_S1x32x1x64x1x16)) shapeCasts_S1x32x1x64x16x16_S32x64x256 := by
  unfold V
  simp only [hostOps0]
  after_results_simp <;> rfl

theorem entry16_apply (c : Dev nD) (g : Fin 32) (p : Fin 64) (k : Fin 256) : V m c main_v16 (ix3 g p k) = m ((c : Thread nD τ).loc main_arg6) (ix3 g (chan k) p) := by
  rw [entry16, tile_apply]
  exact ValueIdx.transpose_ix3_021_apply _ _ g p (chan k)

/-! The elements of the blocks as elements of the arguments, window by window. -/

theorem read0 (c : Dev nD) (t : Fin cfg0.N) (s : Fin 8) (g : Fin 32) (hg : g.val = (grid0.coords t 0).val * 8 + s.val) (p : Fin 64) :
    iblk m c 0 t (ix3 s p 0) = m ((c : Thread nD τ).loc main_arg0) (ix2 g p) := by
  have e := (index_facts t).1.1
  simp only [iblk, V, hostOps0]
  blk_ext! [e]

theorem read1 (c : Dev nD) (t : Fin cfg0.N) (s : Fin 8) (g : Fin 32) (hg : g.val = (grid0.coords t 0).val * 8 + s.val) (p : Fin 64) :
    iblk m c 1 t (ix3 s p 0) = m ((c : Thread nD τ).loc main_arg1) (ix2 g p) := by
  have e := (index_facts t).1.2.1
  simp only [iblk, V, hostOps0]
  blk_ext! [e]

theorem read2 (c : Dev nD) (t : Fin cfg0.N) (s : Fin 8) (g : Fin 32) (hg : g.val = (grid0.coords t 0).val * 8 + s.val) :
    iblk m c 2 t (ix3 s 0 0) = m ((c : Thread nD τ).loc main_arg2) (ix1 g) := by
  have e := (index_facts t).1.2.2.1
  simp only [iblk, V, hostOps0]
  blk_ext! [e]

theorem read5 (c : Dev nD) (t : Fin cfg0.N) (s : Fin 8) (g : Fin 32) (hg : g.val = (grid0.coords t 0).val * 8 + s.val) (d : Fin 16) (p : Fin 64) :
    iblk m c 5 t (ix3 s d p) = m ((c : Thread nD τ).loc main_arg5) (ix3 g d p) := by
  have e := (index_facts t).1.2.2.2.2.2.1
  blk_ext! [iblk, V, e]

theorem read6 (c : Dev nD) (t : Fin cfg0.N) (s : Fin 8) (g : Fin 32) (hg : g.val = (grid0.coords t 0).val * 8 + s.val) (d : Fin 16) (p : Fin 64) :
    iblk m c 6 t (ix3 s d p) = m ((c : Thread nD τ).loc main_arg6) (ix3 g d p) := by
  have e := (index_facts t).1.2.2.2.2.2.2.1
  blk_ext! [iblk, V, e]

theorem read3 (c : Dev nD) (t : Fin cfg0.N) (s : Fin 8) (g : Fin 32) (hg : g.val = (grid0.coords t 0).val * 8 + s.val) (p : Fin 64) (k : Fin 256) :
    iblk m c 3 t (ix3 s p k) = m ((c : Thread nD τ).loc main_arg3) (ix3 g p (chan k)) := by
  have e := (index_facts t).1.2.2.2.1
  rw [← entry5_apply m c g p k]
  show V m c main_v5 ((win0_3.blk t).view.emb (ix3 s p k)) = _
  generalize V m c main_v5 = y
  blk_ext! [e]

theorem read4 (c : Dev nD) (t : Fin cfg0.N) (s : Fin 8) (g : Fin 32) (hg : g.val = (grid0.coords t 0).val * 8 + s.val) (p : Fin 64) (k : Fin 256) :
    iblk m c 4 t (ix3 s p k) = m ((c : Thread nD τ).loc main_arg4) (ix3 g p (chan k)) := by
  have e := (index_facts t).1.2.2.2.2.1
  rw [← entry8_apply m c g p k]
  show V m c main_v8 ((win0_4.blk t).view.emb (ix3 s p k)) = _
  generalize V m c main_v8 = y
  blk_ext! [e]

theorem read7 (c : Dev nD) (t : Fin cfg0.N) (s : Fin 8) (g : Fin 32) (hg : g.val = (grid0.coords t 0).val * 8 + s.val) (p : Fin 64) (k : Fin 256) :
    iblk m c 7 t (ix3 s p k) = m ((c : Thread nD τ).loc main_arg5) (ix3 g (chan k) p) := by
  have e := (index_facts t).1.2.2.2.2.2.2.2.1
  rw [← entry12_apply m c g p k]
  show V m c main_v12 ((win0_7.blk t).view.emb (ix3 s p k)) = _
  generalize V m c main_v12 = y
  blk_ext! [e]

theorem read8 (c : Dev nD) (t : Fin cfg0.N) (s : Fin 8) (g : Fin 32) (hg : g.val = (grid0.coords t 0).val * 8 + s.val) (p : Fin 64) (k : Fin 256) :
    iblk m c 8 t (ix3 s p k) = m ((c : Thread nD τ).loc main_arg6) (ix3 g (chan k) p) := by
  have e := (index_facts t).1.2.2.2.2.2.2.2.2
  rw [← entry16_apply m c g p k]
  show V m c main_v16 ((win0_8.blk t).view.emb (ix3 s p k)) = _
  generalize V m c main_v16 = y
  blk_ext! [e]

/-! The result arrays. -/

/-- The responses. -/
def result9 (c : Dev nD) : S32x16x256.Idx → EReal := fun i => resp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)

theorem arrAt9 (c : Dev nD) : (dats m 0 c).arrAt 9 cfg0.N = result9 m c := by
  refine (dats m 0 c).arrAt_eq_of_covers 9 _ (by decide +kernel) fun t hf y => ?_
  blk_simp
  rw [after0_9]
  idx_vars y
  have e := (index_facts t).2.1
  have h0 : ((((View.whole main_v17_0).slice (win0_9.rect t)).emb (ix3 y0 y1 y2)) 0).val = (grid0.coords t 0).val * 8 + y0.val := by
    blk_simp [e]
  have h1 : ((((View.whole main_v17_0).slice (win0_9.rect t)).emb (ix3 y0 y1 y2)) 1).val = y1.val := by
    blk_simp [e]
  have h2 : ((((View.whole main_v17_0).slice (win0_9.rect t)).emb (ix3 y0 y1 y2)) 2).val = y2.val := by
    blk_simp [e]
  unfold result9
  generalize ((View.whole main_v17_0).slice (win0_9.rect t)).emb (ix3 y0 y1 y2) = i at *
  idx_vars i
  have l1 : y1.val < 16 := y1.isLt
  obtain rfl : y1 = i1 := (Fin.ext h1).symm
  have l2 : y2.val < 256 := y2.isLt
  obtain rfl : y2 = i2 := (Fin.ext h2).symm
  rw [Block.out9_apply]
  simp only [read0 m c t y0 i0 h0, read1 m c t y0 i0 h0, read2 m c t y0 i0 h0, read3 m c t y0 i0 h0, read4 m c t y0 i0 h0, read5 m c t y0 i0 h0, read6 m c t y0 i0 h0]
  rfl

/-- The decayed input columns, real parts. -/
def result10 (c : Dev nD) : S32x64x256.Idx → EReal := fun i => dRe (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

theorem arrAt10 (c : Dev nD) : (dats m 0 c).arrAt 10 cfg0.N = result10 m c := by
  refine (dats m 0 c).arrAt_eq_of_covers 10 _ (by decide +kernel) fun t hf y => ?_
  blk_simp
  rw [after0_10]
  idx_vars y
  have e := (index_facts t).2.2.1
  have h0 : ((((View.whole main_v17_1).slice (win0_10.rect t)).emb (ix3 y0 y1 y2)) 0).val = (grid0.coords t 0).val * 8 + y0.val := by
    blk_simp [e]
  have h1 : ((((View.whole main_v17_1).slice (win0_10.rect t)).emb (ix3 y0 y1 y2)) 1).val = y1.val := by
    blk_simp [e]
  have h2 : ((((View.whole main_v17_1).slice (win0_10.rect t)).emb (ix3 y0 y1 y2)) 2).val = y2.val := by
    blk_simp [e]
  unfold result10
  generalize ((View.whole main_v17_1).slice (win0_10.rect t)).emb (ix3 y0 y1 y2) = i at *
  idx_vars i
  have l1 : y1.val < 64 := y1.isLt
  obtain rfl : y1 = i1 := (Fin.ext h1).symm
  have l2 : y2.val < 256 := y2.isLt
  obtain rfl : y2 = i2 := (Fin.ext h2).symm
  rw [Block.out10_apply]
  simp only [read0 m c t y0 i0 h0, read1 m c t y0 i0 h0, read2 m c t y0 i0 h0, read3 m c t y0 i0 h0, read4 m c t y0 i0 h0]
  rfl

/-- The decayed input columns, imaginary parts. -/
def result11 (c : Dev nD) : S32x64x256.Idx → EReal := fun i => dIm (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

theorem arrAt11 (c : Dev nD) : (dats m 0 c).arrAt 11 cfg0.N = result11 m c := by
  refine (dats m 0 c).arrAt_eq_of_covers 11 _ (by decide +kernel) fun t hf y => ?_
  blk_simp
  rw [after0_11]
  idx_vars y
  have e := (index_facts t).2.2.2.1
  have h0 : ((((View.whole main_v17_2).slice (win0_11.rect t)).emb (ix3 y0 y1 y2)) 0).val = (grid0.coords t 0).val * 8 + y0.val := by
    blk_simp [e]
  have h1 : ((((View.whole main_v17_2).slice (win0_11.rect t)).emb (ix3 y0 y1 y2)) 1).val = y1.val := by
    blk_simp [e]
  have h2 : ((((View.whole main_v17_2).slice (win0_11.rect t)).emb (ix3 y0 y1 y2)) 2).val = y2.val := by
    blk_simp [e]
  unfold result11
  generalize ((View.whole main_v17_2).slice (win0_11.rect t)).emb (ix3 y0 y1 y2) = i at *
  idx_vars i
  have l1 : y1.val < 64 := y1.isLt
  obtain rfl : y1 = i1 := (Fin.ext h1).symm
  have l2 : y2.val < 256 := y2.isLt
  obtain rfl : y2 = i2 := (Fin.ext h2).symm
  rw [Block.out11_apply]
  simp only [read0 m c t y0 i0 h0, read1 m c t y0 i0 h0, read2 m c t y0 i0 h0, read3 m c t y0 i0 h0, read4 m c t y0 i0 h0]
  rfl

/-- The output coefficients, real parts. -/
def result12 (c : Dev nD) : S32x64x256.Idx → EReal := fun i => vRe (m ((c : Thread nD τ).loc main_arg0)) (m ((c : Thread nD τ).loc main_arg1)) (m ((c : Thread nD τ).loc main_arg2)) (m ((c : Thread nD τ).loc main_arg5)) (m ((c : Thread nD τ).loc main_arg6)) (i 0) (i 1) (i 2)

theorem arrAt12 (c : Dev nD) : (dats m 0 c).arrAt 12 cfg0.N = result12 m c := by
  refine (dats m 0 c).arrAt_eq_of_covers 12 _ (by decide +kernel) fun t hf y => ?_
  blk_simp
  rw [after0_12]
  idx_vars y
  have e := (index_facts t).2.2.2.2.1
  have h0 : ((((View.whole main_v17_3).slice (win0_12.rect t)).emb (ix3 y0 y1 y2)) 0).val = (grid0.coords t 0).val * 8 + y0.val := by
    blk_simp [e]
  have h1 : ((((View.whole main_v17_3).slice (win0_12.rect t)).emb (ix3 y0 y1 y2)) 1).val = y1.val := by
    blk_simp [e]
  have h2 : ((((View.whole main_v17_3).slice (win0_12.rect t)).emb (ix3 y0 y1 y2)) 2).val = y2.val := by
    blk_simp [e]
  unfold result12
  generalize ((View.whole main_v17_3).slice (win0_12.rect t)).emb (ix3 y0 y1 y2) = i at *
  idx_vars i
  have l1 : y1.val < 64 := y1.isLt
  obtain rfl : y1 = i1 := (Fin.ext h1).symm
  have l2 : y2.val < 256 := y2.isLt
  obtain rfl : y2 = i2 := (Fin.ext h2).symm
  rw [Block.out12_apply]
  simp only [read0 m c t y0 i0 h0, read1 m c t y0 i0 h0, read2 m c t y0 i0 h0, read7 m c t y0 i0 h0, read8 m c t y0 i0 h0]
  rfl

/-- The output coefficients, imaginary parts with the sign changed. -/
def result13 (c : Dev nD) : S32x64x256.Idx → EReal := fun i => vIm (m ((c : Thread nD τ).loc main_arg0)) (m ((c : Thread nD τ).loc main_arg1)) (m ((c : Thread nD τ).loc main_arg2)) (m ((c : Thread nD τ).loc main_arg5)) (m ((c : Thread nD τ).loc main_arg6)) (i 0) (i 1) (i 2)

theorem arrAt13 (c : Dev nD) : (dats m 0 c).arrAt 13 cfg0.N = result13 m c := by
  refine (dats m 0 c).arrAt_eq_of_covers 13 _ (by decide +kernel) fun t hf y => ?_
  blk_simp
  rw [after0_13]
  idx_vars y
  have e := (index_facts t).2.2.2.2.2.1
  have h0 : ((((View.whole main_v17_4).slice (win0_13.rect t)).emb (ix3 y0 y1 y2)) 0).val = (grid0.coords t 0).val * 8 + y0.val := by
    blk_simp [e]
  have h1 : ((((View.whole main_v17_4).slice (win0_13.rect t)).emb (ix3 y0 y1 y2)) 1).val = y1.val := by
    blk_simp [e]
  have h2 : ((((View.whole main_v17_4).slice (win0_13.rect t)).emb (ix3 y0 y1 y2)) 2).val = y2.val := by
    blk_simp [e]
  unfold result13
  generalize ((View.whole main_v17_4).slice (win0_13.rect t)).emb (ix3 y0 y1 y2) = i at *
  idx_vars i
  have l1 : y1.val < 64 := y1.isLt
  obtain rfl : y1 = i1 := (Fin.ext h1).symm
  have l2 : y2.val < 256 := y2.isLt
  obtain rfl : y2 = i2 := (Fin.ext h2).symm
  rw [Block.out13_apply]
  simp only [read0 m c t y0 i0 h0, read1 m c t y0 i0 h0, read2 m c t y0 i0 h0, read7 m c t y0 i0 h0, read8 m c t y0 i0 h0]
  rfl

/-- The decays over a chunk, real parts. -/
def result14 (c : Dev nD) : S32x64x1.Idx → EReal := fun i => cRe (m ((c : Thread nD τ).loc main_arg0)) (m ((c : Thread nD τ).loc main_arg1)) (m ((c : Thread nD τ).loc main_arg2)) (i 0) (i 1)

theorem arrAt14 (c : Dev nD) : (dats m 0 c).arrAt 14 cfg0.N = result14 m c := by
  refine (dats m 0 c).arrAt_eq_of_covers 14 _ (by decide +kernel) fun t hf y => ?_
  blk_simp
  rw [after0_14]
  idx_vars y
  obtain rfl : y2 = 0 := Subsingleton.elim _ _
  have e := (index_facts t).2.2.2.2.2.2.1
  have h0 : ((((View.whole main_v17_5).slice (win0_14.rect t)).emb (ix3 y0 y1 0)) 0).val = (grid0.coords t 0).val * 8 + y0.val := by
    blk_simp [e]
  have h1 : ((((View.whole main_v17_5).slice (win0_14.rect t)).emb (ix3 y0 y1 0)) 1).val = y1.val := by
    blk_simp [e]
  unfold result14
  generalize ((View.whole main_v17_5).slice (win0_14.rect t)).emb (ix3 y0 y1 0) = i at *
  idx_vars i
  have l1 : y1.val < 64 := y1.isLt
  obtain rfl : y1 = i1 := (Fin.ext h1).symm
  rw [Block.out14_apply]
  simp only [read0 m c t y0 i0 h0, read1 m c t y0 i0 h0, read2 m c t y0 i0 h0]
  rfl

/-- The decays over a chunk, imaginary parts. -/
def result15 (c : Dev nD) : S32x64x1.Idx → EReal := fun i => cIm (m ((c : Thread nD τ).loc main_arg0)) (m ((c : Thread nD τ).loc main_arg1)) (m ((c : Thread nD τ).loc main_arg2)) (i 0) (i 1)

theorem arrAt15 (c : Dev nD) : (dats m 0 c).arrAt 15 cfg0.N = result15 m c := by
  refine (dats m 0 c).arrAt_eq_of_covers 15 _ (by decide +kernel) fun t hf y => ?_
  blk_simp
  rw [after0_15]
  idx_vars y
  obtain rfl : y2 = 0 := Subsingleton.elim _ _
  have e := (index_facts t).2.2.2.2.2.2.2
  have h0 : ((((View.whole main_v17_6).slice (win0_15.rect t)).emb (ix3 y0 y1 0)) 0).val = (grid0.coords t 0).val * 8 + y0.val := by
    blk_simp [e]
  have h1 : ((((View.whole main_v17_6).slice (win0_15.rect t)).emb (ix3 y0 y1 0)) 1).val = y1.val := by
    blk_simp [e]
  unfold result15
  generalize ((View.whole main_v17_6).slice (win0_15.rect t)).emb (ix3 y0 y1 0) = i at *
  idx_vars i
  have l1 : y1.val < 64 := y1.isLt
  obtain rfl : y1 = i1 := (Fin.ext h1).symm
  rw [Block.out15_apply]
  simp only [read0 m c t y0 i0 h0, read1 m c t y0 i0 h0, read2 m c t y0 i0 h0]
  rfl

/-- The run: the seven result buffers end at these arrays, the arguments as launched. -/
theorem run : θ_run defs (onTc (τ := τ) (main (F := Ideal))) ⟨m, fun _ => 0, ρ⟩ fun r => ∀ c : Dev nD,
      r.2.mem ((c : Thread nD τ).loc main_v17_0) = result9 m c
      ∧ r.2.mem ((c : Thread nD τ).loc main_v17_1) = result10 m c
      ∧ r.2.mem ((c : Thread nD τ).loc main_v17_2) = result11 m c
      ∧ r.2.mem ((c : Thread nD τ).loc main_v17_3) = result12 m c
      ∧ r.2.mem ((c : Thread nD τ).loc main_v17_4) = result13 m c
      ∧ r.2.mem ((c : Thread nD τ).loc main_v17_5) = result14 m c
      ∧ r.2.mem ((c : Thread nD τ).loc main_v17_6) = result15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (arrAt9 m c), (h c).2.1.trans (arrAt10 m c), (h c).2.2.1.trans (arrAt11 m c), (h c).2.2.2.1.trans (arrAt12 m c), (h c).2.2.2.2.1.trans (arrAt13 m c), (h c).2.2.2.2.2.1.trans (arrAt14 m c), (h c).2.2.2.2.2.2.1.trans (arrAt15 m c), (h c).2.2.2.2.2.2.2⟩) (Value.run_blocks m ρ)

end Cert.PrepIdeal.Whole

end
-- ==== Proof.PrepClaims.lean ====
/-
  The claims about the preparation of the state space parameters: the frames of the kernel, of its ideal program and of the
  reference, and the equality of their seven results over the extended reals.
-/
module

public import proofs.«01_k».proof.Defs
public import proofs.«01_k».proof.Proof.Gen.Prep.Frame
public import proofs.«01_k».proof.Proof.PrepValue

@[expose] public section

set_option maxRecDepth 16384

noncomputable section

namespace Cert.PrepClaims

open Idealize.ShloMosaic Idealize.SL.Sem Cert.PrepRefIdeal.Entries

theorem frame : Cert.quiescent_Prep := fun m ρ _ => Cert.Prep.Gen.frame m ρ

theorem frame_ideal : Cert.quiescent_PrepIdeal := fun m ρ _ => Cert.PrepIdeal.Gen.frame m ρ

/-- The reference is a host program: it declares no semaphore, and its run leaves the arguments as they were. -/
theorem frame_reference : Cert.quiescent_PrepRefIdeal := fun m ρ _ =>
  (θ_run Cert.PrepRefIdeal.defs _ _).mono (fun r h => ⟨fun c => (h c).2.2.2.2.2.2.2,
      Idealize.ShloMosaic.sem_eq_zero_of_no_sems (by decide) r.2⟩)
    (Cert.PrepRefIdeal.Value.run (F := Ideal) m ρ)

theorem preserves : Cert.preserves_Prep_PrepIdeal := trivial

/-- Both programs' results are the same entries of the arguments. -/
theorem algebraic : Cert.algebraic_PrepIdeal_PrepRefIdeal := by
  intro m ρ m' ρ' _ hagree
  refine ⟨fun c => Cert.PrepIdeal.Whole.result9 m c, fun c => Cert.PrepIdeal.Whole.result10 m c, fun c => Cert.PrepIdeal.Whole.result11 m c, fun c => Cert.PrepIdeal.Whole.result12 m c, fun c => Cert.PrepIdeal.Whole.result13 m c, fun c => Cert.PrepIdeal.Whole.result14 m c, fun c => Cert.PrepIdeal.Whole.result15 m c, Cert.PrepIdeal.Whole.run m ρ, ?_⟩
  refine (θ_run Cert.PrepRefIdeal.defs _ _).mono (fun _ h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2⟩)
    (Cert.PrepRefIdeal.Value.run (F := Ideal) m' ρ')
  all_goals obtain ⟨h0, h1, h2, h3, h4, h5, h6⟩ := hagree c
  · rw [Cert.PrepRefIdeal.Read.val_main_v141_eq, result141, h0, h1, h2, h3, h4, h5, h6]
    rfl
  · rw [Cert.PrepRefIdeal.Read.val_main_v142_eq, result142, h0, h1, h2, h3, h4]
    rfl
  · rw [Cert.PrepRefIdeal.Read.val_main_v143_eq, result143, h0, h1, h2, h3, h4]
    rfl
  · rw [Cert.PrepRefIdeal.Read.val_main_v144_eq, result144, h0, h1, h2, h5, h6]
    rfl
  · rw [Cert.PrepRefIdeal.Read.val_main_v145_eq, result145, h0, h1, h2, h5, h6]
    rfl
  · rw [Cert.PrepRefIdeal.Read.val_main_v138_eq, result138, h0, h1, h2]
    rfl
  · rw [Cert.PrepRefIdeal.Read.val_main_v140_eq, result140, h0, h1, h2]
    rfl

end Cert.PrepClaims

end
-- ==== Proof.lean ====
/- The proof of the claim: the programs' stated facts by the generated modules, then the claims about each program in turn. -/
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationRefIdeal
public import proofs.«01_k».proof.Proof.Gen.ModulationRefIdeal.Run
public import proofs.«01_k».proof.Proof.Gen.ModulationRefIdeal.Read
public import proofs.«01_k».proof.Proof.Gen.Ssm
public import proofs.«01_k».proof.Proof.Gen.Ssm.Skeleton
public import proofs.«01_k».proof.Proof.Gen.Ssm.Loops
public import proofs.«01_k».proof.Proof.Gen.Ssm.Launch
public import proofs.«01_k».proof.Proof.Gen.Ssm.Points
public import proofs.«01_k».proof.Proof.Gen.Ssm.Frame
public import proofs.«01_k».proof.Proof.Gen.SsmIdeal
public import proofs.«01_k».proof.Proof.Gen.SsmIdeal.Skeleton
public import proofs.«01_k».proof.Proof.Gen.SsmIdeal.Loops
public import proofs.«01_k».proof.Proof.Gen.SsmIdeal.Launch
public import proofs.«01_k».proof.Proof.Gen.SsmIdeal.Points
public import proofs.«01_k».proof.Proof.Gen.SsmIdeal.Frame
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.MergeClaims
public import proofs.«01_k».proof.Proof.InprojClaims
public import proofs.«01_k».proof.Proof.ModulationClaims
public import proofs.«01_k».proof.Proof.SsmClaims
public import proofs.«01_k».proof.Proof.PrepClaims
public import Idealize.ShloMosaic.Adequacy
public import Idealize.ShloMosaic.Init

@[expose] public section

noncomputable section

namespace Cert.Proof

open Idealize.ShloMosaic Idealize.SL.Sem Cert.Merge

theorem claim : Cert.Claim := ⟨Cert.Merge.Gen.facts, Cert.MergeIdeal.Gen.facts, Cert.MergeRefIdeal.Gen.facts,
  Cert.Inproj.Gen.facts, Cert.InprojIdeal.Gen.facts, Cert.InprojRefIdeal.Gen.facts,
  Cert.Modulation.Gen.facts, Cert.ModulationIdeal.Gen.facts, Cert.ModulationRefIdeal.Gen.facts,
  Cert.Ssm.Gen.facts, Cert.SsmIdeal.Gen.facts,
  Cert.Prep.Gen.facts, Cert.PrepIdeal.Gen.facts, Cert.PrepRefIdeal.Gen.facts,
  Cert.MergeClaims.frame, Cert.MergeClaims.frame_ideal, Cert.MergeClaims.frame_reference,
  Cert.InprojClaims.frame, Cert.InprojClaims.frame_ideal, Cert.InprojClaims.frame_reference,
  Cert.ModulationClaims.frame, Cert.ModulationClaims.frame_ideal, Cert.ModulationClaims.frame_reference,
  Cert.SsmClaims.frame, Cert.SsmClaims.frame_ideal,
  Cert.PrepClaims.frame, Cert.PrepClaims.frame_ideal, Cert.PrepClaims.frame_reference,
  Cert.MergeClaims.preserves, Cert.MergeClaims.algebraic, Cert.InprojClaims.preserves, Cert.InprojClaims.algebraic,
  Cert.ModulationClaims.preserves, Cert.ModulationClaims.algebraic, Cert.SsmClaims.preserves,
  Cert.PrepClaims.preserves, Cert.PrepClaims.algebraic⟩

end Cert.Proof

end
